-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_labels_in_range_lut_finite [hPre_labels_in_range_lut_finite : Cert.Pre_labels_in_range_lut_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_lut_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_lut_finite [hPre_labels_in_range_lut_finite : Cert.Pre_labels_in_range_lut_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_lut_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range_lut_finite [hKernelIdeal : Cert.KernelIdeal.Facts] [hPre_labels_in_range_lut_finite : Cert.Pre_labels_in_range_lut_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_lut_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range_lut_finite [hReferenceIdeal : Cert.ReferenceIdeal.Facts] [hPre_labels_in_range_lut_finite : Cert.Pre_labels_in_range_lut_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_lut_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range_lut_finite [hKernelIdeal : Cert.KernelIdeal.Facts] [hReferenceIdeal : Cert.ReferenceIdeal.Facts] [hPre_labels_in_range_lut_finite : Cert.Pre_labels_in_range_lut_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_lut_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_in_range_lut_finite : Cert.Pre_labels_in_range_lut_finite.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_in_range_lut_finite (hKernelIdeal := hKernelIdeal) (hPre_labels_in_range_lut_finite := hPre_labels_in_range_lut_finite)
    ∧ quiescent_ReferenceIdeal (hReferenceIdeal := hReferenceIdeal)
    ∧ quiescent_ReferenceIdeal_pre_labels_in_range_lut_finite (hReferenceIdeal := hReferenceIdeal) (hPre_labels_in_range_lut_finite := hPre_labels_in_range_lut_finite)
    ∧ preserves_Kernel_KernelIdeal
    ∧ algebraic_KernelIdeal_ReferenceIdeal_pre_labels_in_range_lut_finite (hKernelIdeal := hKernelIdeal) (hReferenceIdeal := hReferenceIdeal) (hPre_labels_in_range_lut_finite := hPre_labels_in_range_lut_finite)
-- ==== Pre_labels_in_range.lean ====
abbrev S1024x128 : Shape := ⟨2, ![1024, 128]⟩
abbrev S1024 : Shape := ⟨1, ![1024]⟩
abbrev S100000x128 : Shape := ⟨2, ![100000, 128]⟩
abbrev S5000x128 : Shape := ⟨2, ![5000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x128 .f32) (main_arg1 : IVec S1024 32) (main_arg2 : FVec F S100000x128 .f32) (main_arg3 : FVec F S5000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .sle main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_labels_in_range_lut_finite.lean ====
abbrev S1024x128 : Shape := ⟨2, ![1024, 128]⟩
abbrev S1024 : Shape := ⟨1, ![1024]⟩
abbrev S100000x128 : Shape := ⟨2, ![100000, 128]⟩
abbrev S5000x128 : Shape := ⟨2, ![5000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S1024x128 .f32) (main_arg1 : IVec S1024 32) (main_arg2 : FVec F S100000x128 .f32) (main_arg3 : FVec F S5000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .sle main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S100000x128 .f32 := Host.absf main_arg2
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  main_v10
-- ==== Kernel.lean ====
abbrev S1024x128 : Shape := ⟨2, ![1024, 128]⟩
abbrev S1024 : Shape := ⟨1, ![1024]⟩
abbrev S100000x128 : Shape := ⟨2, ![100000, 128]⟩
abbrev S5000x128 : Shape := ⟨2, ![5000, 128]⟩
abbrev S_ : Shape := ⟨0, ![]⟩
abbrev S1x1024 : Shape := ⟨2, ![1, 1024]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1024x1 : Shape := ⟨2, ![1024, 1]⟩
abbrev S1x1 : Shape := ⟨2, ![1, 1]⟩
abbrev S1000x128 : Shape := ⟨2, ![1000, 128]⟩
abbrev S8x128 : Shape := ⟨2, ![8, 128]⟩
abbrev S1024x1000 : Shape := ⟨2, ![1024, 1000]⟩
abbrev S8x1000 : Shape := ⟨2, ![8, 1000]⟩
abbrev S1x1000 : Shape := ⟨2, ![1, 1000]⟩
abbrev S1x1x1000 : Shape := ⟨3, ![1, 1, 1000]⟩
abbrev S1x1x1 : Shape := ⟨3, ![1, 1, 1]⟩
abbrev S1x1024x1 : Shape := ⟨3, ![1, 1024, 1]⟩

abbrev nBuf : Table → Nat
  | .hbm => 12
  | .local .tc .vmem => 11
  | .local .tc .smem => 1
  | .local .scVector .vmem => 2
  | _ => 0

abbrev bufTy : (tb : Table) → Fin (nBuf tb) → BufTy
  | .hbm, ⟨0, _⟩ => ⟨S1024x128, .f32⟩
  | .hbm, ⟨1, _⟩ => ⟨S1024, .i32⟩
  | .hbm, ⟨2, _⟩ => ⟨S100000x128, .f32⟩
  | .hbm, ⟨3, _⟩ => ⟨S5000x128, .f32⟩
  | .hbm, ⟨4, _⟩ => ⟨S_, .i32⟩
  | .hbm, ⟨5, _⟩ => ⟨S1024, .i32⟩
  | .hbm, ⟨6, _⟩ => ⟨S1024, .i32⟩
  | .hbm, ⟨7, _⟩ => ⟨S1x1024, .i32⟩
  | .hbm, ⟨8, _⟩ => ⟨S1024x128, .f32⟩
  | .hbm, ⟨9, _⟩ => ⟨S1024x1, .i32⟩
  | .hbm, ⟨10, _⟩ => ⟨S1x1, .f32⟩
  | .hbm, ⟨11, _⟩ => ⟨S_, .f32⟩
  | .local .tc .vmem, ⟨0, _⟩ => ⟨S1024x128, .f32⟩
  | .local .tc .vmem, ⟨1, _⟩ => ⟨S1024x1, .i32⟩
  | .local .tc .vmem, ⟨2, _⟩ => ⟨S1000x128, .f32⟩
  | .local .tc .vmem, ⟨3, _⟩ => ⟨S1000x128, .f32⟩
  | .local .tc .vmem, ⟨4, _⟩ => ⟨S1000x128, .f32⟩
  | .local .tc .vmem, ⟨5, _⟩ => ⟨S1000x128, .f32⟩
  | .local .tc .vmem, ⟨6, _⟩ => ⟨S1024x128, .f32⟩
  | .local .tc .vmem, ⟨7, _⟩ => ⟨S1x1, .f32⟩
  | .local .tc .vmem, ⟨8, _⟩ => ⟨S1024x128, .f32⟩
  | .local .tc .vmem, ⟨9, _⟩ => ⟨S1024x128, .bf16⟩
  | .local .tc .vmem, ⟨10, _⟩ => ⟨S1024x1, .f32⟩
  | .local .tc .smem, ⟨0, _⟩ => ⟨S1, .i32⟩
  | .local .scVector .vmem, ⟨0, _⟩ => ⟨S2x1x128, .i32⟩
  | .local .scVector .vmem, ⟨1, _⟩ => ⟨S2x128x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg2_scv : Ref sig .scVector := ⟨.hbm, 2, rfl⟩
abbrev main_v2_scv : Ref sig .scVector := ⟨.hbm, 7, rfl⟩
abbrev main_v3_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_scratch3 : Ref sig .tc := ⟨.smem, 0, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_7_r0 : BitVec 32 := 0#32
  let v14_r0 : BitVec 1 := Scalar.cmpi .sgt v11 c0_i32_7_r0
  let v15_r0 : BitVec 32 := Scalar.extui v14_r0
  let c0_i32_8_r0 : BitVec 32 := 0#32
  let v16_r0 : BitVec 1 := Scalar.cmpi .ne v15_r0 c0_i32_8_r0
  v16_r0

def k0_cond2 (i : grid0.Coords) : BitVec 1 :=
  let true_24_r0 : BitVec 1 := 1#1
  let c1_i32_9_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v17_r0 : BitVec 32 := Scalar.muli c1_i32_9_r0 v5
  let c0_i32_23_r0 : BitVec 32 := 0#32
  let v35_r0 : BitVec 1 := Scalar.cmpi .sgt v17_r0 c0_i32_23_r0
  let v36_r0 : BitVec 1 := Scalar.andi true_24_r0 v35_r0
  let true_25_r0 : BitVec 1 := 1#1
  let v37_r0 : BitVec 1 := Scalar.andi v36_r0 true_25_r0
  let v38_r0 : BitVec 32 := Scalar.extui v37_r0
  let c0_i32_27_r0 : BitVec 32 := 0#32
  let v39_r0 : BitVec 1 := Scalar.cmpi .ne v38_r0 c0_i32_27_r0
  v39_r0

def k0_off1 : Fin 3 → Nat :=
  let c0_i32_26_r0 : BitVec 32 := 0#32
  let c2_i32_r0 : BitVec 32 := 2#32
  let v80_r0 : BitVec 32 := Scalar.remui c0_i32_26_r0 c2_i32_r0
  let c0_i32_59_r0 : BitVec 32 := 0#32
  let c0_i32_60_r0 : BitVec 32 := 0#32
  ![v80_r0.toNat, 0, 0]
def k0_off2 (i : grid0.Coords) : Fin 2 → Nat :=
  let c0_i32_61_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v20_r0 : BitVec 32 := Scalar.addi c0_i32_12_r0 v10
  let v81_r0 : BitVec 32 := Scalar.muli c128_i32_r0 v20_r0
  ![0, v81_r0.toNat]
def k0_off3 : Fin 1 → Nat :=
  let c0_i32_26_r0 : BitVec 32 := 0#32
  let c2_i32_r0 : BitVec 32 := 2#32
  let v80_r0 : BitVec 32 := Scalar.remui c0_i32_26_r0 c2_i32_r0
  ![v80_r0.toNat]
@[reducible] def k0_t1_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_37_r0 : BitVec 32 := 1#32
  ⟨c0_i32_31_r0, v46_r0, c1_i32_37_r0⟩
def k0_off4 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off5 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_103_r0 : BitVec 32 := 2#32
  let v167_r0 : BitVec 32 := Scalar.remui arg6_r0 c2_i32_103_r0
  ![v167_r0.toNat]
def k0_off7 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off8 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_103_r0 : BitVec 32 := 2#32
  let v168_r0 : BitVec 32 := Scalar.remui arg7_r0 c2_i32_103_r0
  ![v168_r0.toNat]
def k0_off10 (arg8_r0 : BitVec 32) : Fin 3 → Nat :=
  let c2_i32_86_r0 : BitVec 32 := 2#32
  let v132_r0 : BitVec 32 := Scalar.remui arg8_r0 c2_i32_86_r0
  let c0_i32_103_r1 : BitVec 32 := 0#32
  let c0_i32_104_r1 : BitVec 32 := 0#32
  ![v132_r0.toNat, 0, 0]

def k0_chk2 (i : grid0.Coords) (k0_t1 : Fin (k0_t1_loop i).trips) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (k0_t1 : Fin (k0_t1_loop i).trips) (arg8_r0 : BitVec 32) (k0_hw2 : k0_chk2 i k0_t1 arg8_r0), ∀ (k0_h1 : k0_cond1 i = 1#1), ∀ a, (k0_off10 arg8_r0) a + S1x128x128.size a ≤ S2x128x128.size a := fun i k0_t1 arg8_r0 k0_hw2 k0_h1 => k0_hw2 k0_h1

def k0_off11 (arg7_r0 : BitVec 32) : Fin 3 → Nat :=
  let c2_i32_85_r0 : BitVec 32 := 2#32
  let v131_r0 : BitVec 32 := Scalar.remui arg7_r0 c2_i32_85_r0
  let c0_i32_105_r1 : BitVec 32 := 0#32
  let c0_i32_106_r1 : BitVec 32 := 0#32
  ![v131_r0.toNat, 0, 0]

def k0_chk3 (i : grid0.Coords) (k0_t1 : Fin (k0_t1_loop i).trips) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off11 arg7_r0) a + S1x1x128.size a ≤ S2x1x128.size a := fun i k0_t1 arg7_r0 k0_hw3 k0_h1 => k0_hw3 k0_h1

def k0_off12 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_37_r0 : BitVec 32 := 1#32
  let arg5_r0 : BitVec 32 := Scf.iv c0_i32_31_r0 c1_i32_37_r0 k0_t1
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off14 (arg8_r0 : BitVec 32) : Fin 1 → Nat :=
  let c2_i32_103_r0 : BitVec 32 := 2#32
  let v167_r0 : BitVec 32 := Scalar.remui arg8_r0 c2_i32_103_r0
  ![v167_r0.toNat]
def k0_off15 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_37_r0 : BitVec 32 := 1#32
  let arg5_r0 : BitVec 32 := Scf.iv c0_i32_31_r0 c1_i32_37_r0 k0_t1
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off16 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off17 (arg9_r0 : BitVec 32) : Fin 1 → Nat :=
  let c2_i32_103_r0 : BitVec 32 := 2#32
  let v167_r0 : BitVec 32 := Scalar.remui arg9_r0 c2_i32_103_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1024.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1024.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1024x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1024x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1024.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1024.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1024x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1024x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_31_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let v43_r0 : BitVec 32 := Scalar.addi c0_i32_31_r0 v42_r0
  let c1_i32_38_r0 : BitVec 32 := 1#32
  ⟨v46_r0, v43_r0, c1_i32_38_r0⟩
def k0_off18 (arg6_r0 : BitVec 32) : Fin 3 → Nat :=
  let c2_i32_103_r0 : BitVec 32 := 2#32
  let v167_r0 : BitVec 32 := Scalar.remui arg6_r0 c2_i32_103_r0
  let c0_i32_104_r0 : BitVec 32 := 0#32
  let c0_i32_105_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v101_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c2_i32_r0 : BitVec 32 := 2#32
  let v102_r0 : BitVec 32 := Scalar.subi v80_r0 c2_i32_r0
  let c1_i32_72_r0 : BitVec 32 := 1#32
  let v103_r0 : BitVec 32 := Scalar.addi v102_r0 c1_i32_72_r0
  let v104_r0 : BitVec 1 := Scalar.cmpi .sge arg5_r0 v103_r0
  let true_73_r0 : BitVec 1 := 1#1
  let v105_r0 : BitVec 1 := Scalar.xori v104_r0 true_73_r0
  let v106_r0 : BitVec 1 := Scalar.andi v101_r0 v105_r0
  let true_74_r0 : BitVec 1 := 1#1
  let v107_r0 : BitVec 1 := Scalar.andi v106_r0 true_74_r0
  let v108_r0 : BitVec 32 := Scalar.extui v107_r0
  let c0_i32_75_r0 : BitVec 32 := 0#32
  let v109_r0 : BitVec 1 := Scalar.cmpi .ne v108_r0 c0_i32_75_r0
  v109_r0

def k0_off19 (i : grid0.Coords) (arg10_r0 : BitVec 32) : Fin 2 → Nat :=
  let c0_i32_106_r0 : BitVec 32 := 0#32
  let c128_i32_r0 : BitVec 32 := 128#32
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v93_r0 : BitVec 1 := Scalar.cmpi .eq v92_r0 v5
  let c0_i32_68_r0 : BitVec 32 := 0#32
  let v94_r0 : BitVec 32 := Scalar.select v93_r0 c0_i32_68_r0 v92_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_103_r0 : BitVec 32 := 2#32
  let v167_r0 : BitVec 32 := Scalar.remui arg6_r0 c2_i32_103_r0
  ![v167_r0.toNat]
def k0_off21 (arg7_r0 : BitVec 32) : Fin 3 → Nat :=
  let c2_i32_103_r0 : BitVec 32 := 2#32
  let v168_r0 : BitVec 32 := Scalar.remui arg7_r0 c2_i32_103_r0
  let c0_i32_104_r0 : BitVec 32 := 0#32
  let c0_i32_105_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let v120_r0 : BitVec 1 := Scalar.ori v119_r0 v81_r0
  let c0_i32_81_r0 : BitVec 32 := 0#32
  let v121_r0 : BitVec 1 := Scalar.cmpi .sge arg5_r0 c0_i32_81_r0
  let v122_r0 : BitVec 1 := Scalar.andi v120_r0 v121_r0
  let v123_r0 : BitVec 32 := Scalar.extui v122_r0
  let c0_i32_82_r0 : BitVec 32 := 0#32
  let v124_r0 : BitVec 1 := Scalar.cmpi .ne v123_r0 c0_i32_82_r0
  v124_r0

def k0_off22 (i : grid0.Coords) (arg10_r0 : BitVec 32) : Fin 2 → Nat :=
  let c0_i32_106_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_103_r0 : BitVec 32 := 2#32
  let v168_r0 : BitVec 32 := Scalar.remui arg7_r0 c2_i32_103_r0
  ![v168_r0.toNat]
def k0_off24 (arg8_r0 : BitVec 32) : Fin 3 → Nat :=
  let c2_i32_86_r0 : BitVec 32 := 2#32
  let v132_r0 : BitVec 32 := Scalar.remui arg8_r0 c2_i32_86_r0
  let c0_i32_103_r2 : BitVec 32 := 0#32
  let c0_i32_104_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_85_r0 : BitVec 32 := 2#32
  let v131_r0 : BitVec 32 := Scalar.remui arg7_r0 c2_i32_85_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_103_r0 : BitVec 32 := 2#32
  let v167_r0 : BitVec 32 := Scalar.remui arg8_r0 c2_i32_103_r0
  let c0_i32_104_r0 : BitVec 32 := 0#32
  let c0_i32_105_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_67_r0 : BitVec 1 := 1#1
  let c1_i32_66_r0 : BitVec 32 := 1#32
  let v91_r0 : BitVec 32 := Scalar.addi arg10_r0 c1_i32_66_r0
  let v92_r0 : BitVec 32 := Scalar.select true_67_r0 v91_r0 arg10_r0
  let v93_r0 : BitVec 1 := Scalar.cmpi .eq v92_r0 v5
  let c0_i32_68_r0 : BitVec 32 := 0#32
  let v94_r0 : BitVec 32 := Scalar.select v93_r0 c0_i32_68_r0 v92_r0
  let v95_r0 : BitVec 32 := Scalar.addi v94_r0 v10
  let v138_r0 : BitVec 1 := Scalar.cmpi .ne v84_r0 v95_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c1_i32_59_r0 : BitVec 32 := 1#32
  let v80_r0 : BitVec 32 := Scalar.muli c1_i32_59_r0 v5
  let c1_i32_61_r0 : BitVec 32 := 1#32
  let v82_r0 : BitVec 32 := Scalar.subi v80_r0 c1_i32_61_r0
  let v83_r0 : BitVec 1 := Scalar.cmpi .eq arg5_r0 v82_r0
  let v139_r0 : BitVec 1 := Scalar.ori v138_r0 v83_r0
  let v140_r0 : BitVec 32 := Scalar.extui v139_r0
  let c0_i32_89_r0 : BitVec 32 := 0#32
  let v141_r0 : BitVec 1 := Scalar.cmpi .ne v140_r0 c0_i32_89_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  ![v168_r0.toNat, 0]
def k0_off28 (arg8_r0 : BitVec 32) : Fin 1 → Nat :=
  let c2_i32_103_r0 : BitVec 32 := 2#32
  let v167_r0 : BitVec 32 := Scalar.remui arg8_r0 c2_i32_103_r0
  ![v167_r0.toNat]
def k0_off29 (arg9_r0 : BitVec 32) : Fin 3 → Nat :=
  let c2_i32_103_r0 : BitVec 32 := 2#32
  let v167_r0 : BitVec 32 := Scalar.remui arg9_r0 c2_i32_103_r0
  let c0_i32_104_r0 : BitVec 32 := 0#32
  let c0_i32_105_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v84_r0 : BitVec 32 := Scalar.addi arg10_r0 v10
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c1_i32_65_r0 : BitVec 32 := 1#32
  let v88_r0 : BitVec 32 := Scalar.subi v5 c1_i32_65_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_31_r0 : BitVec 32 := 0#32
  let c1_i32_5 : BitVec 32 := 1#32
  let v11 : BitVec 32 := Scalar.muli c1_i32_5 v5
  let v42_r0 : BitVec 32 := Scalar.subi v11 c0_i32_31_r0
  let c1_i32_36_r0 : BitVec 32 := 1#32
  let v44_r0 : BitVec 32 := Scalar.divsi v42_r0 c1_i32_36_r0
  let v45_r0 : BitVec 32 := Scalar.muli v44_r0 c1_i32_36_r0
  let v46_r0 : BitVec 32 := Scalar.addi c0_i32_31_r0 v45_r0
  let c1_i32_38_r0 : BitVec 32 := 1#32
  let arg5_r0 : BitVec 32 := Scf.iv v46_r0 c1_i32_38_r0 k0_t2
  let c0_i32_60_r0 : BitVec 32 := 0#32
  let v81_r0 : BitVec 1 := Scalar.cmpi .eq arg5_r0 c0_i32_60_r0
  let true_95_r0 : BitVec 1 := 1#1
  let v152_r0 : BitVec 1 := Scalar.xori v81_r0 true_95_r0
  let v153_r0 : BitVec 1 := Scalar.andi v151_r0 v152_r0
  let v154_r0 : BitVec 32 := Scalar.extui v153_r0
  let c0_i32_96_r0 : BitVec 32 := 0#32
  let v155_r0 : BitVec 1 := Scalar.cmpi .ne v154_r0 c0_i32_96_r0
  v155_r0

def k0_off30 (i : grid0.Coords) (arg10_r0 : BitVec 32) : Fin 2 → Nat :=
  let c128_i32_r0 : BitVec 32 := 128#32
  let true_63_r0 : BitVec 1 := 1#1
  let c1_i32_62_r0 : BitVec 32 := 1#32
  let v85_r0 : BitVec 32 := Scalar.subi arg10_r0 c1_i32_62_r0
  let v86_r0 : BitVec 32 := Scalar.select true_63_r0 v85_r0 arg10_r0
  let c_m1_i32_64_r0 : BitVec 32 := 4294967295#32
  let v87_r0 : BitVec 1 := Scalar.cmpi .eq v86_r0 c_m1_i32_64_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_65_r0 : BitVec 32 := 1#32
  let v88_r0 : BitVec 32 := Scalar.subi v5 c1_i32_65_r0
  let v89_r0 : BitVec 32 := Scalar.select v87_r0 v88_r0 v86_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  ![v168_r0.toNat, 0]
def k0_off31 (arg9_r0 : BitVec 32) : Fin 1 → Nat :=
  let c2_i32_103_r0 : BitVec 32 := 2#32
  let v167_r0 : BitVec 32 := Scalar.remui arg9_r0 c2_i32_103_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1024.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1024.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1024x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1024x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1024.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1024.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1024x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1024x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_43_r0 : BitVec 32 := 1#32
  let v54_r0 : BitVec 32 := Scalar.subi v11 c1_i32_43_r0
  let c1_i32_44_r0 : BitVec 32 := 1#32
  let v55_r0 : BitVec 32 := Scalar.muli c1_i32_44_r0 v5
  let c1_i32_46_r0 : BitVec 32 := 1#32
  let v57_r0 : BitVec 32 := Scalar.subi v55_r0 c1_i32_46_r0
  let v58_r0 : BitVec 1 := Scalar.cmpi .eq v54_r0 v57_r0
  let v78_r0 : BitVec 32 := Scalar.extui v58_r0
  let c0_i32_58_r0 : BitVec 32 := 0#32
  let v79_r0 : BitVec 1 := Scalar.cmpi .ne v78_r0 c0_i32_58_r0
  v79_r0

def k0_off32 (v48_3_r0 : BitVec 32) : Fin 3 → Nat :=
  let c2_i32_r0 : BitVec 32 := 2#32
  let v80_r0 : BitVec 32 := Scalar.remui v48_3_r0 c2_i32_r0
  let c0_i32_59_r0 : BitVec 32 := 0#32
  let c0_i32_60_r0 : BitVec 32 := 0#32
  ![v80_r0.toNat, 0, 0]

def k0_off33 (i : grid0.Coords) (v48_4_r0 : BitVec 32) : Fin 2 → Nat :=
  let c128_i32_r0 : BitVec 32 := 128#32
  let true_40_r0 : BitVec 1 := 1#1
  let c1_i32_39_r0 : BitVec 32 := 1#32
  let v49_r0 : BitVec 32 := Scalar.subi v48_4_r0 c1_i32_39_r0
  let v50_r0 : BitVec 32 := Scalar.select true_40_r0 v49_r0 v48_4_r0
  let c_m1_i32_41_r0 : BitVec 32 := 4294967295#32
  let v51_r0 : BitVec 1 := Scalar.cmpi .eq v50_r0 c_m1_i32_41_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_42_r0 : BitVec 32 := 1#32
  let v52_r0 : BitVec 32 := Scalar.subi v5 c1_i32_42_r0
  let v53_r0 : BitVec 32 := Scalar.select v51_r0 v52_r0 v50_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S1024x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S1024x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_63_r0 : BitVec 32 := 0#32
  let c0_i32_64_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![105], ![false]⟩

def k1_cond4 (i : grid1.Coords) : BitVec 1 :=
  let arg0 : BitVec 32 := BitVec.ofNat 32 (i 0).val
  let c104_i32 : BitVec 32 := 104#32
  let v10 : BitVec 1 := Scalar.cmpi .eq arg0 c104_i32
  let v11 : BitVec 32 := Scalar.extui v10
  let c0_i32_4 : BitVec 32 := 0#32
  let v12 : BitVec 1 := Scalar.cmpi .ne v11 c0_i32_4
  v12

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c100_i32 : BitVec 32 := 100#32
  let v0 : BitVec 32 := Scalar.subi arg0 c100_i32
  let c0_i32 : BitVec 32 := 0#32
  let c4_i32 : BitVec 32 := 4#32
  let v1 : BitVec 32 := Scalar.maxsi c0_i32 v0
  let v2 : BitVec 32 := Scalar.minsi c4_i32 v1
  let c0_i32_0 : BitVec 32 := 0#32
  let c0_i32_1 : BitVec 32 := 0#32
  ![v2.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S1024 : Shape := ⟨1, ![1024]⟩
abbrev S100000x128 : Shape := ⟨2, ![100000, 128]⟩
abbrev S5000x128 : Shape := ⟨2, ![5000, 128]⟩
abbrev S_ : Shape := ⟨0, ![]⟩
abbrev S1024x1 : Shape := ⟨2, ![1024, 1]⟩
abbrev S100000 : Shape := ⟨1, ![100000]⟩
abbrev S1 : Shape := ⟨1, ![1]⟩
abbrev S100001 : Shape := ⟨1, ![100001]⟩
abbrev S5000 : Shape := ⟨1, ![5000]⟩
abbrev S128x100000 : Shape := ⟨2, ![128, 100000]⟩
abbrev S1024x100000 : Shape := ⟨2, ![1024, 100000]⟩
abbrev S1x100000 : Shape := ⟨2, ![1, 100000]⟩
abbrev S1024x2 : Shape := ⟨2, ![1024, 2]⟩
abbrev S128x5000 : Shape := ⟨2, ![128, 5000]⟩
abbrev S1024x5000 : Shape := ⟨2, ![1024, 5000]⟩
abbrev S1x5000 : Shape := ⟨2, ![1, 5000]⟩
abbrev S1024x105000 : Shape := ⟨2, ![1024, 105000]⟩
abbrev S1024x1x1 : Shape := ⟨3, ![1024, 1, 1]⟩
abbrev S1x1x1 : Shape := ⟨3, ![1, 1, 1]⟩

abbrev nBuf : Space → Nat
  | .hbm => 156
  | .vmem => 0
  | .smem => 0
  | _ => 0

abbrev hbmTy0_0 (i : Nat) : BufTy := match i % 128 with
  | 0 => ⟨S1024x128, .f32⟩
  | 1 => ⟨S1024, .i32⟩
  | 2 => ⟨S100000x128, .f32⟩
  | 3 => ⟨S5000x128, .f32⟩
  | 4 => ⟨S1024x128, .f32⟩
  | 5 => ⟨S_, .f32⟩
  | 6 => ⟨S1024, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x128, .f32⟩
  | 13 => ⟨S1024x128, .f32⟩
  | 14 => ⟨S_, .f32⟩
  | 15 => ⟨S100000x128, .f32⟩
  | 16 => ⟨S100000x128, .i1⟩
  | 17 => ⟨S_, .i1⟩
  | 18 => ⟨S100000, .i1⟩
  | 19 => ⟨S_, .i1⟩
  | 20 => ⟨S1, .i1⟩
  | 21 => ⟨S100001, .i1⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1024, .i1⟩
  | 31 => ⟨S_, .f32⟩
  | 32 => ⟨S5000x128, .f32⟩
  | 33 => ⟨S5000x128, .i1⟩
  | 34 => ⟨S_, .i1⟩
  | 35 => ⟨S5000, .i1⟩
  | 36 => ⟨S128x100000, .f32⟩
  | 37 => ⟨S1024x100000, .f32⟩
  | 38 => ⟨S1x100000, .i1⟩
  | 39 => ⟨S_, .f32⟩
  | 40 => ⟨S_, .f32⟩
  | 41 => ⟨S1024x100000, .i1⟩
  | 42 => ⟨S1024x100000, .f32⟩
  | 43 => ⟨S1024x100000, .f32⟩
  | 44 => ⟨S1024, .i32⟩
  | 45 => ⟨S_, .i32⟩
  | 46 => ⟨S1024, .i32⟩
  | 47 => ⟨S1024, .i32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x1, .i32⟩
  | 64 => ⟨S1024x2, .i32⟩
  | 65 => ⟨S1024, .f32⟩
  | 66 => ⟨S_, .f32⟩
  | 67 => ⟨S_, .f32⟩
  | 68 => ⟨S1024, .f32⟩
  | 69 => ⟨S1024, .f32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i1⟩
  | 80 => ⟨S_, .i32⟩
  | 81 => ⟨S1024, .i32⟩
  | 82 => ⟨S1024, .i32⟩
  | 83 => ⟨S1024, .i32⟩
  | 84 => ⟨S1024x1, .i32⟩
  | 85 => ⟨S1024x1, .i32⟩
  | 86 => ⟨S1024x2, .i32⟩
  | 87 => ⟨S1024x100000, .f32⟩
  | 88 => ⟨S128x5000, .f32⟩
  | 89 => ⟨S1024x5000, .f32⟩
  | 90 => ⟨S1x5000, .i1⟩
  | 91 => ⟨S_, .f32⟩
  | 92 => ⟨S_, .f32⟩
  | 93 => ⟨S1024x5000, .i1⟩
  | 94 => ⟨S1024x5000, .f32⟩
  | 95 => ⟨S1024x5000, .f32⟩
  | 96 => ⟨S1024x105000, .f32⟩
  | 97 => ⟨S_, .f32⟩
  | 98 => ⟨S1024x105000, .f32⟩
  | 99 => ⟨S1024x105000, .f32⟩
  | 100 => ⟨S_, .i32⟩
  | 101 => ⟨S1024, .i32⟩
  | 102 => ⟨S1024, .i1⟩
  | 103 => ⟨S_, .i32⟩
  | 104 => ⟨S_, .i32⟩
  | 105 => ⟨S1024, .i32⟩
  | 106 => ⟨S1024, .i32⟩
  | 107 => ⟨S_, .f32⟩
  | 108 => ⟨S1024, .f32⟩
  | 109 => ⟨S_, .f32⟩
  | 110 => ⟨S1024, .f32⟩
  | 111 => ⟨S1024, .f32⟩
  | 112 => ⟨S1024x1, .f32⟩
  | 113 => ⟨S1024x105000, .f32⟩
  | 114 => ⟨S1024x105000, .f32⟩
  | 115 => ⟨S1024x105000, .f32⟩
  | 116 => ⟨S_, .f32⟩
  | 117 => ⟨S1024, .f32⟩
  | 118 => ⟨S1024x1, .f32⟩
  | 119 => ⟨S1024x1, .f32⟩
  | 120 => ⟨S1024x105000, .f32⟩
  | 121 => ⟨S1024x105000, .f32⟩
  | 122 => ⟨S1024x1, .i32⟩
  | 123 => ⟨S_, .i32⟩
  | 124 => ⟨S1024x1, .i32⟩
  | 125 => ⟨S1024x1, .i1⟩
  | 126 => ⟨S_, .i32⟩
  | 127 => ⟨S1024x1, .i32⟩
  | _ => ⟨S1024x128, .f32⟩

abbrev hbmTy0_1 (i : Nat) : BufTy := match i % 128 with
  | 0 => ⟨S1024x1, .i32⟩
  | 1 => ⟨S1024x1, .i32⟩
  | 2 => ⟨S1024x1x1, .i32⟩
  | 3 => ⟨S1, .i32⟩
  | 4 => ⟨S_, .i32⟩
  | 5 => ⟨S1024x1x1, .i32⟩
  | 6 => ⟨S1024x1x1, .i1⟩
  | 7 => ⟨S1x1x1, .i32⟩
  | 8 => ⟨S1024x1x1, .i32⟩
  | 9 => ⟨S1024x1x1, .i1⟩
  | 10 => ⟨S1024x1x1, .i1⟩
  | 11 => ⟨S_, .i1⟩
  | 12 => ⟨S1024x1, .i1⟩
  | 13 => ⟨S1024x1, .f32⟩
  | 14 => ⟨S_, .f32⟩
  | 15 => ⟨S1024x1, .f32⟩
  | 16 => ⟨S1024x1, .f32⟩
  | 17 => ⟨S1024, .f32⟩
  | 18 => ⟨S1024, .f32⟩
  | 19 => ⟨S_, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S_, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_12 : Ref sig .tc := ⟨.hbm, 66, rfl⟩
abbrev main_call2_v0 : Ref sig .tc := ⟨.hbm, 67, rfl⟩
abbrev main_call2_v1 : Ref sig .tc := ⟨.hbm, 68, rfl⟩
abbrev main_v41 : Ref sig .tc := ⟨.hbm, 69, rfl⟩
abbrev main_c_13 : Ref sig .tc := ⟨.hbm, 70, rfl⟩
abbrev main_v42 : Ref sig .tc := ⟨.hbm, 71, rfl⟩
abbrev main_v43 : Ref sig .tc := ⟨.hbm, 72, rfl⟩
abbrev main_c_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_15 : Ref sig .tc := ⟨.hbm, 77, rfl⟩
abbrev main_v47 : Ref sig .tc := ⟨.hbm, 78, rfl⟩
abbrev main_v48 : Ref sig .tc := ⟨.hbm, 79, rfl⟩
abbrev main_c_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_17 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v59 : Ref sig .tc := ⟨.hbm, 95, rfl⟩
abbrev main_v60 : Ref sig .tc := ⟨.hbm, 96, rfl⟩
abbrev main_cst_18 : Ref sig .tc := ⟨.hbm, 97, rfl⟩
abbrev main_v61 : Ref sig .tc := ⟨.hbm, 98, rfl⟩
abbrev main_v62 : Ref sig .tc := ⟨.hbm, 99, rfl⟩
abbrev main_c_19 : Ref sig .tc := ⟨.hbm, 100, rfl⟩
abbrev main_v63 : Ref sig .tc := ⟨.hbm, 101, rfl⟩
abbrev main_v64 : Ref sig .tc := ⟨.hbm, 102, rfl⟩
abbrev main_c_20 : Ref sig .tc := ⟨.hbm, 103, rfl⟩
abbrev main_call4_v0 : Ref sig .tc := ⟨.hbm, 104, rfl⟩
abbrev main_call4_v1 : Ref sig .tc := ⟨.hbm, 105, rfl⟩
abbrev main_v65 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v66 : Ref sig .tc := ⟨.hbm, 121, rfl⟩
abbrev main_v67 : Ref sig .tc := ⟨.hbm, 122, rfl⟩
abbrev main_call6_c : Ref sig .tc := ⟨.hbm, 123, rfl⟩
abbrev main_call6_v0 : Ref sig .tc := ⟨.hbm, 124, rfl⟩
abbrev main_call6_v1 : Ref sig .tc := ⟨.hbm, 125, rfl⟩
abbrev main_call6_c_0 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_c_1 : Ref sig .tc := ⟨.hbm, 131, rfl⟩
abbrev main_call6_c_2 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_c_3 : Ref sig .tc := ⟨.hbm, 139, rfl⟩
abbrev main_call6_v12 : Ref sig .tc := ⟨.hbm, 140, rfl⟩
abbrev main_call6_v13 : Ref sig .tc := ⟨.hbm, 141, rfl⟩
abbrev main_call6_cst : Ref sig .tc := ⟨.hbm, 142, rfl⟩
abbrev main_call6_v14 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_cst_21 : Ref sig .tc := ⟨.hbm, 147, rfl⟩
abbrev main_call7_v0 : Ref sig .tc := ⟨.hbm, 148, rfl⟩
abbrev main_call7_v1 : Ref sig .tc := ⟨.hbm, 149, rfl⟩
abbrev main_v71 : Ref sig .tc := ⟨.hbm, 150, rfl⟩
abbrev main_cst_22 : Ref sig .tc := ⟨.hbm, 151, rfl⟩
abbrev main_v72 : Ref sig .tc := ⟨.hbm, 152, rfl⟩
abbrev main_v73 : Ref sig .tc := ⟨.hbm, 153, rfl⟩
abbrev main_cst_23 : Ref sig .tc := ⟨.hbm, 154, rfl⟩
abbrev main_v74 : Ref sig .tc := ⟨.hbm, 155, rfl⟩

abbrev nD : Nat := 1
abbrev τ : Topo := Topo.v7x

variable {F : FTy → Type} [FloatOps F]
-- ==== Proof.Setup.lean ====
/-
  The shared set-up of the certificate's separation-logic run: the SparseCore launch configuration of the printed
  program, the ghost state (the handshakes' rounds, the pipeline's rounds, the transfers' counters), and the arrays'
  locations.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Oim

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type} [FloatOps F]

/-! ## The program as the launch theorem sees it -/

/-- The labels of the TensorCore's body table: the kernels and the one pipeline. -/
abbrev ΛP : Labels := Pipeline.Sig Λ₀ (Fin 1) fun p => (pcfgs (F := F) p).Adm
/-- The SparseCore configuration of the program. -/
abbrev K : SparseCore.Cfg τ sig (ΛP (F := F)) 1 := sc (F := F)
/-- The call runs on sixteen vector subcores of each of its SparseCores. -/
theorem nSub_zero : (K (F := F)).nSub 0 = 16 := rfl
/-- The call runs on two SparseCores. -/
theorem nCore_zero : (K (F := F)).nCore 0 = 2 := rfl
/-- The body table below the SparseCore calls. -/
abbrev D : Defs nD τ sig (Elt F) (ΛP (F := F)) := Pipeline.defs pcfgs defs₀
/-- No loop of the kernels needs a variant. -/
abbrev 𝒱₀ : Variants := Variants.none
/-- The variants of the extended table. -/
abbrev 𝒱 : Variants := 𝒱₀.lift
/-- The variant at which the tiles' kernels are entered. -/
abbrev v₀ : 𝒱.V := Sum.inl none

omit [FloatOps F] in
/-- The configuration's semaphores are distinct and unscoped, and no tile buffer is shared among a SparseCore's tasks. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds. -/
abbrev UP : Type := URounds (GSem nD τ sig) Unit
/-- The certificate's ghost state: the handshakes' rounds, the pipeline's, and the transfers' counters. -/
abbrev UU : Type := UH × (UP × Counters)

/-- The resources the run is proved over. -/
abbrev MM (F : FTy → Type) : Type := MT nD τ sig (HIx 1) (Elt F) ℕ UU ℕ

/-- The handshakes' rounds in the certificate's ghost state. -/
abbrev EH : Emb UH (MM F) := embL
/-- The pipeline's rounds in the certificate's ghost state. -/
abbrev EP : Emb UP (MM F) := (Emb.inl : Emb UP (UP × Counters)).trans embR

/-! ## The arrays -/

/-- The embeddings to project, on device `d`. -/
abbrev xLoc (d : Dev nD) : Loc nD τ sig := (SparseCore.T d).loc main_arg0
/-- The labels. -/
abbrev labLoc (d : Dev nD) : Loc nD τ sig := (SparseCore.T d).loc main_arg1
/-- The labelled table. -/
abbrev lutLoc (d : Dev nD) : Loc nD τ sig := (SparseCore.T d).loc main_arg2
/-- The unlabelled queue. -/
abbrev cqLoc (d : Dev nD) : Loc nD τ sig := (SparseCore.T d).loc main_arg3
/-- The row numbers the SparseCore call gathers by. -/
abbrev ixLoc (d : Dev nD) : Loc nD τ sig := (SparseCore.T d).loc main_v2
/-- The gathered rows. -/
abbrev gLoc (d : Dev nD) : Loc nD τ sig := (SparseCore.T d).loc main_v3

end Cert.Oim

end
-- ==== Proof.TileFacts.lean ====
/-
  The words a tile of the gather computes: which tiles run, how often the pipelined loops turn, which of the guarded
  transfers happen, and at which offsets. Each is a function of the tile's coordinates alone, decided over the grid.
-/
module

public import proofs.«01_k».proof.Proof.Setup

@[expose] public section

noncomputable section

namespace Cert.Oim

open Cert.KernelIdeal Cert.KernelIdeal.Gen
open Idealize.ShloMosaic Idealize.SL.Sem

/-- The tiles that run are the first eight of SparseCore 0. -/
theorem cond1_iff : ∀ i : grid0.Coords, k0_cond1 i = 1#1 ↔ ((i 0).val = 0 ∧ (i 1).val < 8) := by decide +kernel
/-- A running tile fetches its block of row numbers before its loop. -/
theorem cond2_true : ∀ i : grid0.Coords, k0_cond1 i = 1#1 → k0_cond2 i = 1#1 := by decide +kernel
/-- Its main loop turns once, -/
theorem trips1 : ∀ i : grid0.Coords, k0_cond1 i = 1#1 → (k0_t1_loop i).trips = 1 := by decide +kernel
/-- its remainder loop not at all. -/
theorem trips2 (i : grid0.Coords) : (k0_t2_loop i).trips = 0 := Nat.le_zero.mp (k0_t2_abs i).2.1
/-- In its one turn there is no next block to fetch, -/
theorem cond3_false : ∀ i : grid0.Coords, k0_cond1 i = 1#1 → ∀ t, ¬ k0_cond3 i t 0#32 = 1#1 := by decide +kernel
/-- the block fetched before is waited for, -/
theorem cond4_true : ∀ i : grid0.Coords, k0_cond1 i = 1#1 → ∀ t, k0_cond4 i t 0#32 = 1#1 := by decide +kernel
/-- the gathered rows are sent out, -/
theorem cond7_true : ∀ i : grid0.Coords, k0_cond1 i = 1#1 → ∀ t, k0_cond7 i t 0#32 = 1#1 := by decide +kernel
/-- and no earlier block's sending is waited for. -/
theorem cond9_false : ∀ i : grid0.Coords, k0_cond1 i = 1#1 → ∀ t, ¬ k0_cond9 i t 0#32 = 1#1 := by decide +kernel
/-- After the loops the sending is waited for. -/
theorem cond18_true : ∀ i : grid0.Coords, k0_cond1 i = 1#1 → k0_cond18 i = 1#1 := by decide +kernel
/-- The tile's block of row numbers starts at 128 times its subcore's number. -/
theorem off2_val : ∀ i : grid0.Coords, k0_cond1 i = 1#1 → k0_off2 i = ![0, 128 * (i 1).val] := by decide +kernel
/-- So does the block it waits for. -/
theorem off8_val : ∀ i : grid0.Coords, k0_cond1 i = 1#1 → k0_off8 i 0#32 = ![0, 128 * (i 1).val] := by decide +kernel
/-- Its block of gathered rows starts at that row, -/
theorem off13_val : ∀ i : grid0.Coords, k0_cond1 i = 1#1 → k0_off13 i 0#32 = ![128 * (i 1).val, 0] := by decide +kernel
/-- also where its sending is waited for. -/
theorem off33_val : ∀ i : grid0.Coords, k0_cond1 i = 1#1 → k0_off33 i 0#32 = ![128 * (i 1).val, 0] := by decide +kernel
/-- The checks before the loops' bodies hold at the counters they meet. -/
theorem chk1_ok : ∀ i : grid0.Coords, k0_cond1 i = 1#1 → ∀ t, k0_chk1 i t 1#32 0#32 0#32 0#32 0#32 := by decide +kernel
/-- Likewise the row buffer's slot, -/
theorem chk2_ok : ∀ i : grid0.Coords, ∀ t, k0_chk2 i t 0#32 := by decide +kernel
/-- the index buffer's slot, -/
theorem chk3_ok : ∀ i : grid0.Coords, ∀ t, k0_chk3 i t 0#32 := by decide +kernel
/-- the slot whose sending is waited for -/
theorem chk7_ok : ∀ i : grid0.Coords, k0_chk7 i 0#32 := by decide +kernel
/-- and the block that was sent. -/
theorem chk8_ok : ∀ i : grid0.Coords, k0_chk8 i 0#32 := by decide +kernel
/-- The word that says whether the tile has a step: one, on a running tile. -/
theorem step_word : ∀ i : grid0.Coords, k0_cond1 i = 1#1 →
    Scalar.select (Scalar.cmpi .slt (Scalar.addi 0#32 (Scalar.muli (BitVec.ofNat 32 (i 1).val) 1#32) |> fun v1 => Scalar.addi v1 (Scalar.muli (BitVec.ofNat 32 (i 0).val) 16#32)) 8#32) 1#32 0#32 = 1#32 := by decide +kernel

end Cert.Oim

end
-- ==== Proof.Tile.lean ====
/-
  One tile of the gather. A running tile fetches its 128 row numbers, gathers those rows of the labelled table into its
  row buffer, and sends them to its block of the gathered array; the run is stated with the values it leaves.
-/
module

public import proofs.«01_k».proof.Proof.TileFacts
public import Idealize.ShloMosaic.Lib.ValueIdxCore
public import Idealize.ShloMosaic.Lib.VecWindow
public import Idealize.ShloMosaic.Lib.Exec.Geometry

@[expose] public section

noncomputable section

namespace Cert.Oim

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MM F

/-- The labelled table as a tile addresses it, -/
abbrev lutV : Memref sig .scVector .hbm S100000x128 .f32 := Memref.whole main_arg2_scv
/-- the row numbers, -/
abbrev ixV : Memref sig .scVector .hbm S1x1024 .i32 := Memref.whole main_v2_scv
/-- the gathered rows, -/
abbrev gV : Memref sig .scVector .hbm S1024x128 .f32 := Memref.whole main_v3_scv
/-- its index buffer -/
abbrev ibV : Memref sig .scVector .vmem S2x1x128 .i32 := Memref.whole cc0_scoped0
/-- and its row buffer. -/
abbrev rbV : Memref sig .scVector .vmem S2x128x128 .f32 := Memref.whole cc0_scoped2

section Tile

variable (d : Dev nD) (L : grid0.Coords)

/-- The SparseCore the coordinates name. -/
abbrev cV (L : grid0.Coords) : Fin τ.nSC := (L 0).castLE hcore0
/-- The subcore they name. -/
abbrev jV (L : grid0.Coords) : Fin τ.nSub := (L 1).castLE hsub0
/-- The tile. -/
abbrev thr (d : Dev nD) (L : grid0.Coords) : Thread nD τ := V d (cV L) (jV L)

/-- A running tile's block of the gathered rows. -/
abbrev gBlk (L : grid0.Coords) (h : ∀ a, (k0_off13 L 0#32) a + S128x128.size a ≤ S1024x128.size a) : Memref sig .scVector .hbm S128x128 .f32 :=
  gV.slice (Rect.unit (s := S1024x128) (k0_off13 L 0#32) S128x128.size h) (fun _ => rfl)

/-- The first input semaphore. -/
@[sl_canon] theorem semIn (h) : ((SemArray.slice cc0_scoped1 (Rect.unit k0_off3 S1.size h)).squeeze S_ squeezes_S1_S_).sem = (0 : DmaSem sig) := by
  decide +kernel +revert

/-- The slot of the index buffer a running tile uses, -/
abbrev ibSlot : Memref sig .scVector .vmem S1x128 .i32 :=
  (ibV.slice (Rect.unit (s := S2x1x128) ![0, 0, 0] S1x1x128.size (by decide)) (fun _ => rfl)).squeeze S1x128 squeezes_S1x1x128_S1x128
/-- and that slot as the list of row numbers. -/
abbrev ibList : Memref sig .scVector .vmem S128 .i32 :=
  (ibSlot.slice (Rect.unit (s := S1x128) ![0, 0] S1x128.size inb_S1x128_S1x128_0_0) (fun _ => rfl)).squeeze S128 squeezes_S1x128_S128

/-- The first slot of the index buffer, by its offsets. -/
@[sl_canon] theorem ibSlice_off1 (h h') : ibV.slice (Rect.unit (s := S2x1x128) k0_off1 S1x1x128.size h) h'
    = ibV.slice (Rect.unit (s := S2x1x128) ![0, 0, 0] S1x1x128.size (by decide)) (fun _ => rfl) := by
  have e : k0_off1 = ![0, 0, 0] := by decide
  generalize k0_off1 = o at h h' e
  subst e; rfl

/-- A list written into the slot reads back, entry by entry. -/
theorem ibList_read (f : ibV.view.ref.ty.Contents (Elt F)) (p : S1x128.Idx → Elt F .i32) (k : Fin 128) :
    ibList.view.read (Elt F) (ibSlot.view.write (Elt F) f p Finset.univ) (ix1 k) = p (ix2 0 k) := by
  have h1 := congrFun (Memref.read_squeeze_full (Val := Elt F) ibSlot inb_S1x128_S1x128_0_0 squeezes_S1x128_S128
    (ibSlot.view.write (Elt F) f p Finset.univ)) (ix1 k)
  refine h1.trans ?_
  rw [View.read_write_univ]
  refine congrArg p (Shape.reshapeEquiv_eq_of_rowMajor _ ?_)
  show (Shape.rowMajor ⟨2, _⟩ _ : ℕ) = (Shape.rowMajor ⟨1, _⟩ _ : ℕ)
  rw [Shape.rowMajor_val_two, Shape.rowMajor_val_one]
  show 0 * _ + k.val = k.val
  omega

/-- The gathered array: row `r` is the table's row of the number `r` holds. -/
def gathered (fl : S100000x128.Idx → Elt F .f32) (fi : S1x1024.Idx → Elt F .i32) : S1024x128.Idx → Elt F .f32 :=
  fun j => fl (ix2 ⟨min (fi (ix2 0 (j 0))).toNat 99999, by omega⟩ (j 1))

/-- Row `r` of a tile's payload is the table's row its list names for `r`. -/
theorem payload_apply (fl : S100000x128.Idx → Elt F .f32) (idx : S128.Idx → Elt F .i32)
    (h : ∀ x, (idx x).toNat < S100000x128.size gathers_S100000x128_S128x128.axis) (r c : Fin 128) :
    SparseCore.gatherPayload gathers_S100000x128_S128x128 fl
        (SparseCore.rows (si := S128) (o := S128x128.size gathers_S100000x128_S128x128.axis') (F := F) idx rfl h) (ix2 r c)
      = fl (ix2 ⟨(idx (ix1 r)).toNat, h (ix1 r)⟩ c) := by
  refine congrArg fl ?_
  funext b
  match b with
  | ⟨0, _⟩ =>
    refine (Shape.Gathers.idx_axis gathers_S100000x128_S128x128 _ (ix2 r c)).trans (Fin.ext ?_)
    show (idx _).toNat = (idx _).toNat
    refine congrArg (fun x => (idx x).toNat) ?_
    refine (Equiv.symm_apply_eq _).mpr (Fin.ext ?_)
    show r.val = (Shape.rowMajor ⟨1, _⟩ _ : ℕ)
    rw [Shape.rowMajor_val_one]
  | ⟨1, _⟩ => exact Fin.ext (Shape.Gathers.idx_of_ne gathers_S100000x128_S128x128 _ (ix2 r c) 1 (by decide))

/-- What a running tile starts from. -/
def tilePre (hb : ∀ a, (k0_off13 L 0#32) a + S128x128.size a ≤ S1024x128.size a)
    (q q' : PosShare TreeShare) (fl : Buf (Elt F) (lutLoc d)) (fi : Buf (Elt F) (ixLoc d)) (fg : Buf (Elt F) (gLoc d))
    (O : CellTallies nD τ sig (HIx 1)) (W : Waits sig (HIx 1))
    (f0 : ibV.view.ref.ty.Contents (Elt F)) (f1 : rbV.view.ref.ty.Contents (Elt F)) : sProp 𝕄 :=
    iprop(Transfers.MayWaits (V d (cV L) (jV L)) (default : HIx 1) O
        ∗ (lutV.view.loc (V d (cV L) (jV L)) ↦{q} fl) ∗ (ixV.view.loc (V d (cV L) (jV L)) ↦{q'} fi)
        ∗ ((gBlk L hb).view.loc (V d (cV L) (jV L)) ↦[(gBlk L hb).view.set]{fullShare} fg)
        ∗ (ibV.view.loc (V d (cV L) (jV L)) ↦{fullShare} f0) ∗ (rbV.view.loc (V d (cV L) (jV L)) ↦{fullShare} f1)
        ∗ semVal (V d (cV L) (jV L), SemLoc.dma 0) 0 ∗ semVal (V d (cV L) (jV L), SemLoc.dma 2) 0
        ∗ semVal (V d (cV L) (jV L), SemLoc.dma 4) 0
        ∗ owes (V d (cV L) (jV L)) O W)

/-- What it ends with: the arrays back, its block gathered, its buffers and counters as a launch expects them. -/
def tilePost (hb : ∀ a, (k0_off13 L 0#32) a + S128x128.size a ≤ S1024x128.size a)
    (q q' : PosShare TreeShare) (fl : Buf (Elt F) (lutLoc d)) (fi : Buf (Elt F) (ixLoc d))
    (O : CellTallies nD τ sig (HIx 1)) (W : Waits sig (HIx 1)) : sProp 𝕄 :=
    iprop((lutV.view.loc (V d (cV L) (jV L)) ↦{q} fl) ∗ (ixV.view.loc (V d (cV L) (jV L)) ↦{q'} fi)
        ∗ ((gBlk L hb).view.loc (V d (cV L) (jV L)) ↦[(gBlk L hb).view.set]{fullShare} (gathered fl fi))
        ∗ (∃ f, ibV.view.loc (V d (cV L) (jV L)) ↦{fullShare} f) ∗ (∃ f, rbV.view.loc (V d (cV L) (jV L)) ↦{fullShare} f)
        ∗ semVal (V d (cV L) (jV L), SemLoc.dma 0) 0 ∗ semVal (V d (cV L) (jV L), SemLoc.dma 2) 0
        ∗ semVal (V d (cV L) (jV L), SemLoc.dma 4) 0
        ∗ ∃ W', ⌜∀ p ∈ W', p ∈ W ∨ p.2 = none⌝ ∗ owes (V d (cV L) (jV L)) O W')

/-- The index block a running tile fetches is its 128 words of the row numbers. -/
theorem ixBlk_read (hc : k0_cond1 L = 1#1) (h h') (fi : S1x1024.Idx → Elt F .i32) (k : Fin 128) :
    (ixV.slice (Rect.unit (s := S1x1024) (k0_off2 L) S1x128.size h) h').view.read (Elt F) fi (ix2 0 k)
      = fi (ix2 0 ⟨128 * (L 1).val + k.val, by have := ((cond1_iff L).mp hc).2; omega⟩) := by
  refine congrArg fi ?_
  have e := off2_val L hc
  funext b
  match b with
  | ⟨0, _⟩ => exact Fin.ext (by show (k0_off2 L) 0 + 1 * 0 = 0; rw [e]; rfl)
  | ⟨1, _⟩ => exact Fin.ext (by show (k0_off2 L) 1 + 1 * k.val = 128 * (L 1).val + k.val; rw [e]; show 128 * (L 1).val + 1 * k.val = _; omega)

/-- An element of a running tile's block, by its row and column there. -/
theorem gBlk_emb (hc : k0_cond1 L = 1#1) (hb : ∀ a, (k0_off13 L 0#32) a + S128x128.size a ≤ S1024x128.size a) (r c : Fin 128) :
    (gBlk L hb).view.emb (ix2 r c) = ix2 (n0 := 1024) (n1 := 128) ⟨128 * (L 1).val + r.val, by have := ((cond1_iff L).mp hc).2; omega⟩ c := by
  have e := off13_val L hc
  funext b
  match b with
  | ⟨0, _⟩ => exact Fin.ext (by show (k0_off13 L 0#32) 0 + 1 * r.val = 128 * (L 1).val + r.val; rw [e]; show 128 * (L 1).val + 1 * r.val = _; omega)
  | ⟨1, _⟩ => exact Fin.ext (by show (k0_off13 L 0#32) 1 + 1 * c.val = c.val; rw [e]; show 0 + 1 * c.val = _; omega)

set_option sl_exec.dmaWindow true in
set_option sl_exec.dmaWindowLent true in
/-- A running tile's task, from the row numbers in the table's range. -/
theorem tile_run (hc : k0_cond1 L = 1#1) (hb : ∀ a, (k0_off13 L 0#32) a + S128x128.size a ≤ S1024x128.size a)
    (q q' : PosShare TreeShare) (fl : Buf (Elt F) (lutLoc d)) (fi : Buf (Elt F) (ixLoc d)) (fg : Buf (Elt F) (gLoc d))
    (O : CellTallies nD τ sig (HIx 1)) (W : Waits sig (HIx 1)) (f0 f1)
    (hin : ∀ x : S1x1024.Idx, (fi x : BitVec 32).toNat < 100000) :
    tilePre (F := F) d L hb q q' fl fi fg O W f0 f1
      ⊢ wp frame (wpE (defs₀ (F := F)) 𝒱₀ (V d (cV L) (jV L)) none) Set.univ
          (cc0_kern L lutV (Memref.isWhole_whole _) ixV (Memref.isWhole_whole _) gV (Memref.isWhole_whole _)
            ibV (Memref.isWhole_whole _) cc0_scoped1 rbV (Memref.isWhole_whole _) cc0_scoped3 cc0_scoped4 cc0_scoped5)
          fun _ => (tilePost (F := F) d L hb q q' fl fi O W : sProp 𝕄) := by
  have hc2 := cond2_true L hc
  simp only [cc0_kern_eq_skeleton]; unfold cc0_kern_skel
  simp only [step_word L hc]
  unfold tilePre
  iintro ⟨#Hmw, Hlut, Hix, Hg, Hib, Hrb, Hs0, Hs2, Hs4, HO⟩
  sl_exec (disch := first | sl_exact hc | sl_exact hc2)
  sl_unroll (trips1 L hc)
  sl_exec (disch := first | sl_exact hc | sl_exact (chk1_ok L hc _) | sl_exact (chk2_ok L _) | sl_exact (chk3_ok L _) | sl_exact (cond3_false L hc _) | sl_exact (cond4_true L hc _) | sl_exact (cond7_true L hc _) | sl_exact (cond9_false L hc _))
  have hkey : ∀ k : Fin 128, ibList.view.read (Elt F) (ibSlot.view.write (Elt F) f0 (tile_run.sl.dma0 d L hc fi hc2) Finset.univ) (ix1 k)
      = fi (ix2 0 ⟨128 * (L 1).val + k.val, by have := ((cond1_iff L).mp hc).2; omega⟩) := fun k =>
    (ibList_read (F := F) f0 _ k).trans (ixBlk_read (F := F) L hc (k0_off2_inb L hc hc2) (fun _ => rfl) fi k)
  have hin' : ∀ x : S128.Idx, (ibList.view.read (Elt F) (ibSlot.view.write (Elt F) f0 (tile_run.sl.dma0 d L hc fi hc2) Finset.univ) x).toNat
      < S100000x128.size gathers_S100000x128_S128x128.axis := by
    intro x
    obtain ⟨k, rfl⟩ : ∃ k : Fin 128, x = ix1 k := ⟨x 0, eq_ix1 x⟩
    rw [hkey k]
    exact hin _
  sl_exec (disch := first | sl_exact hc | sl_exact (chk1_ok L hc _) | sl_exact (chk2_ok L _) | sl_exact (chk3_ok L _) | sl_exact (cond3_false L hc _) | sl_exact (cond4_true L hc _) | sl_exact (cond7_true L hc _) | sl_exact (cond9_false L hc _))
  sl_for0 (trips2 L)
  sl_exec (disch := first | sl_exact (chk7_ok L) | sl_exact (chk8_ok L) | sl_exact (cond18_true L hc))
  have hw : ∀ L : grid0.Coords, k0_cond1 L = 1#1 → tile_run.sl.v158_r0 L = 0#32 := by decide +kernel
  rw [hw L hc]
  sl_exec (disch := first | sl_exact (chk7_ok L) | sl_exact (chk8_ok L) | sl_exact (cond18_true L hc))
  sl_step
  unfold tilePost
  have hval : ∀ i ∈ (gBlk L hb).view.set, (gBlk L hb).view.writes (Elt F) fg [⟨Rect.whole S128x128, tile_run.sl.dma0_1 d L hc fl fi f0 f1 hc2 hin'⟩] i
      = gathered fl fi i := by
    intro i hi
    obtain ⟨x, -, rfl⟩ := Finset.mem_map.mp hi
    obtain ⟨r, c, rfl⟩ : ∃ r c : Fin 128, x = ix2 r c := ⟨x 0, x 1, eq_ix2 x⟩
    rw [← View.write_univ_eq_writes_whole, View.writes_nil, View.write_emb_of_mem _ _ (Finset.mem_univ _), gBlk_emb L hc hb]
    refine (cast_eq _ _).trans ?_
    have h1 : tile_run.sl.dma0_1 d L hc fl fi f0 f1 hc2 hin' (ix2 r c)
        = tile_run.sl.gather0 d L hc fl fi f0 hc2 hin' (ix2 r c) :=
      congrFun (View.read_write_univ _ _) (ix2 r c)
    refine h1.trans ((payload_apply (F := F) _ _ hin' r c).trans ?_)
    refine congrArg fl (funext fun b => ?_)
    have hr := congrArg BitVec.toNat (hkey r)
    match b with
    | ⟨0, _⟩ =>
      refine Fin.ext ?_
      show 0 + 1 * BitVec.toNat _ = min (BitVec.toNat _) 99999
      refine (by omega : ∀ {a b : ℕ}, a = b → b < 100000 → 0 + 1 * a = min b 99999) hr (hin _)
    | ⟨1, _⟩ => exact Fin.ext (by show 0 + 1 * c.val = c.val; omega)
  ihave Hg' := (Entails.of_eq (pointsTo_congr hval)) $$ Hg
  isplitl [Hlut]; · iexact Hlut
  isplitl [Hix]; · iexact Hix
  isplitl [Hg']; · iexact Hg'
  isplitl [Hib]; · iexists _; iexact Hib
  isplitl [Hrb]; · iexists _; iexact Hrb
  isplitl [Hs0]; · iexact Hs0
  isplitl [Hs2]; · iexact Hs2
  isplitl [Hs4]; · iexact Hs4
  iexists _
  isplitr [HO]
  rotate_left
  · iexact HO
  ipureintro
  intro p hp
  rcases Finset.mem_insert.mp hp with rfl | hp
  · exact Or.inr rfl
  rcases Finset.mem_insert.mp hp with rfl | hp
  · exact Or.inr rfl
  rcases Finset.mem_insert.mp hp with rfl | hp
  · exact Or.inr rfl
  exact Or.inl hp

/-- A tile with no block ends at once. -/
theorem idle_run (hc : ¬ k0_cond1 L = 1#1) (Q : sProp 𝕄) :
    Q ⊢ wp frame (wpE (defs₀ (F := F)) 𝒱₀ (V d (cV L) (jV L)) none) Set.univ
          (cc0_kern L lutV (Memref.isWhole_whole _) ixV (Memref.isWhole_whole _) gV (Memref.isWhole_whole _)
            ibV (Memref.isWhole_whole _) cc0_scoped1 rbV (Memref.isWhole_whole _) cc0_scoped3 cc0_scoped4 cc0_scoped5)
          fun _ => Q := by
  simp only [cc0_kern_eq_skeleton]; unfold cc0_kern_skel
  iintro H
  sl_exec (disch := first | sl_exact hc)
  sl_step
  iexact H

end Tile

end Cert.Oim

end
-- ==== Proof.Tiles.lean ====
/-
  The SparseCore call's obligations: what its handshakes carry, the tiles' tasks at every coordinate, and how the
  operands are split among the tiles and joined again.
-/
module

public import proofs.«01_k».proof.Proof.Tile
public import Idealize.ShloMosaic.Lib.Pipeline.Kit

@[expose] public section

set_option maxRecDepth 16384

noncomputable section

namespace Cert.Oim

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MM F

variable (m : (ℓ : Loc nD τ sig) → Buf (Elt F) ℓ)

/-! ## What the handshakes carry -/

/-- The row numbers the call gathers by: each label, or the last row where the label is the table's size. -/
def ixOf (lab : S1024.Idx → Elt F .i32) : S1x1024.Idx → Elt F .i32 :=
  fun i => shapeCast S1x1024 ((minsi : (⟨S1024, .i32⟩ : BufTy).Contents (Elt F) → (⟨S1024, .i32⟩ : BufTy).Contents (Elt F) → (⟨S1024, .i32⟩ : BufTy).Contents (Elt F)) lab
    ((broadcastInDim S1024 ![] bcast_S_S1024 : (⟨S_, .i32⟩ : BufTy).Contents (Elt F) → (⟨S1024, .i32⟩ : BufTy).Contents (Elt F)) (constantI S_ 32 99999#32))) shapeCasts_S1024_S1x1024 i

/-- Tile `i`'s rows of the gathered array: 128 of them for the first eight tiles, none for the others. -/
def blkSet (i : Fin 16) : Finset S1024x128.Idx := Finset.univ.filter fun j => (j 0).val / 128 = i.val

/-- Tile `i`'s part of the operands: a share of the table, a share of the row numbers, its rows of the gathered array
    at `f`. -/
def piece (d : Dev nD) (i : Fin 16) (f : S1024x128.Idx → Elt F .f32) : sProp 𝕄 :=
  iprop((lutLoc d ↦{Transfers.shareTok fullShare 16 i} m (lutLoc d)) ∗ (ixLoc d ↦{Transfers.shareTok fullShare 16 i} ixOf (F := F) (m (labLoc d)))
    ∗ (gLoc d ↦[blkSet i]{fullShare} f))
/-- All the operands, the gathered array at `f`. -/
def whole (d : Dev nD) (f : S1024x128.Idx → Elt F .f32) : sProp 𝕄 :=
  iprop((lutLoc d ↦{fullShare} m (lutLoc d)) ∗ (ixLoc d ↦{fullShare} ixOf (F := F) (m (labLoc d))) ∗ (gLoc d ↦{fullShare} f))
/-- What the call leaves in the gathered array. -/
abbrev gOut (d : Dev nD) : S1024x128.Idx → Elt F .f32 := gathered (F := F) (m (lutLoc d)) (ixOf (F := F) (m (labLoc d)))

instance (d : Dev nD) (i : Fin 16) (f) : BI.Storable (upEmb : UEmb _ 𝕄) (piece m d i f) := by unfold piece; infer_instance
instance (d : Dev nD) (f) : BI.Storable (upEmb : UEmb _ 𝕄) (whole m d f) := by unfold whole; infer_instance

/-- The call hands all its operands to the first SparseCore, which hands each tile its part and gets them back with the
    rows gathered; the second SparseCore is handed nothing. -/
def P : (K (F := F)).Pay (nD := nD) (Val := Elt F) (Name := ℕ) (U := UU) where
  st := fun q d c => match q with | 0 => if c.val = 0 then whole m d (m (gLoc d)) else iprop(emp)
  dn := fun q d c => match q with | 0 => if c.val = 0 then whole m d (gOut m d) else iprop(emp)
  go := fun q d c i => match q with | 0 => if c.val = 0 then piece m d (Fin.cast nSub_zero i) (m (gLoc d)) else iprop(emp)
  td := fun q d c i => match q with | 0 => if c.val = 0 then piece m d (Fin.cast nSub_zero i) (gOut m d) else iprop(emp)
  x := fun _ _ => iprop(emp)

instance ite_storable (p : Prop) [Decidable p] (A : sProp 𝕄) [BI.Storable (upEmb : UEmb _ 𝕄) A] :
    BI.Storable (upEmb : UEmb _ 𝕄) (if p then A else iprop(emp)) := by split <;> infer_instance

instance P_storable : (P (F := F) m).IsStorable where
  st q d c := match q with
    | 0 => (inferInstance : BI.Storable (upEmb : UEmb _ 𝕄) (if c.val = 0 then whole m d (m (gLoc d)) else iprop(emp)))
  dn q d c := match q with
    | 0 => (inferInstance : BI.Storable (upEmb : UEmb _ 𝕄) (if c.val = 0 then whole m d (gOut m d) else iprop(emp)))
  go q d c i := match q with
    | 0 => (inferInstance : BI.Storable (upEmb : UEmb _ 𝕄) (if c.val = 0 then piece m d (Fin.cast nSub_zero i) (m (gLoc d)) else iprop(emp)))
  td q d c i := match q with
    | 0 => (inferInstance : BI.Storable (upEmb : UEmb _ 𝕄) (if c.val = 0 then piece m d (Fin.cast nSub_zero i) (gOut m d) else iprop(emp)))

/-- Every row number names a row of the table. -/
def PreOK : Prop := ∀ (d : Dev nD) (j : S1x1024.Idx), (ixOf (F := F) (m (labLoc d)) j : BitVec 32).toNat < 100000

/-! ## A tile's own buffers and semaphores -/

section Tile

variable (d : Dev nD) (L : grid0.Coords)

/-- The three semaphores a task uses, of the tile's own. -/
theorem ownSems0_V :
    (ownSems0 (V d (cV L) (jV L)) : sProp 𝕄)
      = iprop(semVal (V d (cV L) (jV L), SemLoc.dma 0) 0 ∗ semVal (V d (cV L) (jV L), SemLoc.dma 2) 0 ∗ semVal (V d (cV L) (jV L), SemLoc.dma 4) 0
          ∗ bigSep ((((ownCells (V d (cV L) (jV L))).erase (V d (cV L) (jV L), SemLoc.dma 0)).erase (V d (cV L) (jV L), SemLoc.dma 2)).erase (V d (cV L) (jV L), SemLoc.dma 4)) fun g => semVal g 0) := by
  unfold SparseCore.Cfg.ownSems0
  rw [SparseCore.bigSep_erase' ((mem_ownCells (g := (V d (cV L) (jV L), SemLoc.dma 0))).mpr ⟨rfl, by
      show (SemLoc.dma 0 : SemLoc sig).isScoped .scVector = true; decide⟩),
    SparseCore.bigSep_erase' (Finset.mem_erase.mpr ⟨fun e => absurd (congrArg Prod.snd e) (show (SemLoc.dma 2 : SemLoc sig) ≠ SemLoc.dma 0 by decide), (mem_ownCells (g := (V d (cV L) (jV L), SemLoc.dma 2))).mpr ⟨rfl, by
      show (SemLoc.dma 2 : SemLoc sig).isScoped .scVector = true; decide⟩⟩),
    SparseCore.bigSep_erase' (Finset.mem_erase.mpr ⟨fun e => absurd (congrArg Prod.snd e) (show (SemLoc.dma 4 : SemLoc sig) ≠ SemLoc.dma 2 by decide), Finset.mem_erase.mpr ⟨fun e => absurd (congrArg Prod.snd e) (show (SemLoc.dma 4 : SemLoc sig) ≠ SemLoc.dma 0 by decide),
      (mem_ownCells (g := (V d (cV L) (jV L), SemLoc.dma 4))).mpr ⟨rfl, by show (SemLoc.dma 4 : SemLoc sig).isScoped .scVector = true; decide⟩⟩⟩)]

/-- The two buffers a task uses, of the tile's own. -/
theorem ownBufs_V :
    (ownBufs (V d (cV L) (jV L)) : sProp 𝕄)
      = iprop((∃ f, ibV.view.loc (V d (cV L) (jV L)) ↦{fullShare} f) ∗ (∃ f, rbV.view.loc (V d (cV L) (jV L)) ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## A task -/

/-- A working tile's block of the gathered array lies in it. -/
theorem blk_inb (hc : k0_cond1 L = 1#1) : ∀ a, (k0_off13 L 0#32) a + S128x128.size a ≤ S1024x128.size a := by
  have h := (cond1_iff L).mp hc
  have e := off13_val L hc
  intro a
  rw [e]
  fin_cases a
  · show 128 * (L 1).val + 128 ≤ 1024; omega
  · show 0 + 128 ≤ 128; omega

/-- A working tile's block is its rows. -/
theorem gBlk_set (hc : k0_cond1 L = 1#1) (i : Fin 16) (hi : i.val = (L 1).val) :
    (show Finset S1024x128.Idx from (gBlk L (blk_inb L hc)).view.set) = blkSet i := by
  have h := (cond1_iff L).mp hc
  ext j
  have hm : (j ∈ (show Finset S1024x128.Idx from (gBlk L (blk_inb L hc)).view.set)) ↔ ∃ y, (gBlk L (blk_inb L hc)).view.emb y = j := by
    show j ∈ (gBlk L (blk_inb L hc)).view.set ↔ _
    unfold View.set
    rw [Finset.mem_map]
    exact ⟨fun ⟨y, _, e⟩ => ⟨y, e⟩, fun ⟨y, e⟩ => ⟨y, Finset.mem_univ _, e⟩⟩
  rw [hm, blkSet, Finset.mem_filter]
  constructor
  · rintro ⟨y, e⟩
    obtain ⟨r, c, rfl⟩ : ∃ r c : Fin 128, y = ix2 r c := ⟨y 0, y 1, eq_ix2 y⟩
    rw [gBlk_emb L hc] at e
    refine ⟨Finset.mem_univ _, ?_⟩
    rw [← e]
    show (128 * (L 1).val + r.val) / 128 = i.val
    omega
  · rintro ⟨-, e⟩
    have hj : (j 0).val < 1024 := (j 0).isLt
    refine ⟨ix2 ⟨(j 0).val % 128, Nat.mod_lt _ (by decide)⟩ (show Fin 128 from j 1), ?_⟩
    refine (gBlk_emb L hc (blk_inb L hc) ⟨(j 0).val % 128, Nat.mod_lt _ (by decide)⟩ (show Fin 128 from j 1)).trans ?_
    funext a
    apply Fin.ext
    fin_cases a
    · show 128 * (L 1).val + (j 0).val % 128 = (j 0).val; omega
    · rfl

/-- The kernel on tile `L`, with the arrays and the scratch the call gives it. -/
@[irreducible] def kernAt (L : grid0.Coords) : Prog (TpuEff nD τ sig (Elt F) Λ₀ (.scVector (cV L) (jV L))) PUnit :=
  cc0_kern L lutV (Memref.isWhole_whole _) ixV (Memref.isWhole_whole _) gV (Memref.isWhole_whole _)
    ibV (Memref.isWhole_whole _) cc0_scoped1 rbV (Memref.isWhole_whole _) cc0_scoped3 cc0_scoped4 cc0_scoped5

set_option maxHeartbeats 1000000 in
/-- The task on tile `L`: from its part of the operands to that part with its rows gathered, everything of its own
    given back. -/
theorem tile_body (hF : (K (F := F)).Facts) (hpre : PreOK m) (i : Fin 16) (hi : i.val = (L 1).val)
    (O : CellTallies nD τ sig (HIx 1)) (W : Waits sig (HIx 1)) (hO : ∀ g, O g none = 0) :
    iprop(levAts (K (F := F)).L (K (F := F)).lev ∗ emp
        ∗ (if (L 0).val = 0 then piece m d i (m (gLoc d)) else iprop(emp))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (kernAt L)
          fun _ => iprop((if (L 0).val = 0 then piece m d i (gOut m d) else iprop(emp))
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold kernAt
  by_cases hc : k0_cond1 L = 1#1
  · have h := (cond1_iff L).mp hc
    rw [if_pos h.1, if_pos h.1, (K (F := F)).scopedBufs_V hF d (cV L) (jV L), SparseCore.Cfg.scopedSems0_V (Val := Elt F) d (cV L) (jV L), ownSems0_V, ownBufs_V]
    unfold piece
    iintro ⟨#Hlv, -, ⟨Hl, Hx, Hg⟩, ⟨⟨%f0, H0⟩, ⟨%f1, H1⟩, Hbufs⟩, ⟨Hs0, Hs2, Hs4, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    have hg (f : S1024x128.Idx → Elt F .f32) : ((gLoc d ↦[blkSet i]{fullShare} f : sProp 𝕄)
        = ((gBlk L (blk_inb L hc)).view.loc (V d (cV L) (jV L)) ↦[(gBlk L (blk_inb L hc)).view.set]{fullShare} f)) := by
      rw [← gBlk_set L hc i hi]
    ihave Hg' := (Entails.of_eq (hg _)) $$ Hg
    iapply (wp_wand_r frame _ Set.univ)
    isplitl [Hmw Hl Hx Hg' H0 H1 Hs0 Hs2 Hs4 HO]
    · iapply (tile_run (F := F) d L hc (blk_inb L hc) _ _ (m (lutLoc d)) (ixOf (F := F) (m (labLoc d))) (m (gLoc d)) O W f0 f1 (hpre d))
      unfold tilePre
      isplitl [Hmw]; · iexact Hmw
      isplitl [Hl]; · iexact Hl
      isplitl [Hx]; · iexact Hx
      isplitl [Hg']; · iexact Hg'
      isplitl [H0]; · iexact H0
      isplitl [H1]; · iexact H1
      isplitl [Hs0]; · iexact Hs0
      isplitl [Hs2]; · iexact Hs2
      isplitl [Hs4]; · iexact Hs4
      iexact HO
    iintro %r HP
    unfold tilePost
    icases HP with ⟨Hl, Hx, Hg, H0, H1, Hs0, Hs2, Hs4, HO⟩
    ihave Hg' := (Entails.of_eq (hg _).symm) $$ Hg
    isplitl [Hl Hx Hg']
    · isplitl [Hl]; · iexact Hl
      isplitl [Hx]; · iexact Hx
      iexact Hg'
    isplitl [H0 H1 Hbufs]
    · isplitl [H0]; · iexact H0
      isplitl [H1]; · iexact H1
      iexact Hbufs
    isplitl [Hs0 Hs2 Hs4 Hsems]
    · isplitl [Hs0]; · iexact Hs0
      isplitl [Hs2]; · iexact Hs2
      isplitl [Hs4]; · iexact Hs4
      iexact Hsems
    iexact HO
  · refine BIBase.Entails.trans ?_ (idle_run (F := F) d L hc _)
    have hp : (if (L 0).val = 0 then piece m d i (m (gLoc d)) else iprop(emp)) ⊢ (if (L 0).val = 0 then piece m d i (gOut m d) else iprop(emp) : sProp 𝕄) := by
      split
      · rename_i h0
        have h8 : ¬ (L 1).val < 8 := fun h8 => hc ((cond1_iff L).mpr ⟨h0, h8⟩)
        have he : blkSet i = ∅ := by
          rw [blkSet, Finset.filter_eq_empty_iff]
          intro j _ e
          have hj : (j 0).val < 1024 := (j 0).isLt
          omega
        unfold piece
        rw [he, show (gLoc d ↦[(∅ : Finset S1024x128.Idx)]{fullShare} m (gLoc d) : sProp 𝕄) = gLoc d ↦[(∅ : Finset S1024x128.Idx)]{fullShare} gOut m d from
          pointsTo_congr fun j hj => absurd hj (Finset.notMem_empty j)]
      · exact .rfl
    iintro ⟨-, -, Hp, Hb, Hs, HO⟩
    isplitl [Hp]; · iapply hp; iexact Hp
    isplitl [Hb]; · iexact Hb
    isplitl [Hs]; · iexact Hs
    iexists W
    isplitr; · ipureintro; exact fun p hp => Or.inl hp
    iexact HO

end Tile

/-- What a task leaves, as the launch theorem asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %hW', HO⟩
  iexists W'; isplitr
  · ipureintro; exact fun p hp => (hW' p hp).imp_right Or.inl
  · iexact HO

/-- The grid's coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The body table's row at a tile is the kernel on it. -/
theorem defs₀_vector (c : Fin τ.nSC) (s : Fin τ.nSub) :
    defs₀ (F := F) (.scVector c s) 0 () = SparseCore.onTile hcore0 hsub0 (fun c s => kernAt (coordsV c s)) ⟨⟩ c s := by
  unfold defs₀ kernAt; rfl

/-- Every task meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (Fin.cast nSub_zero i) rfl O W hO).trans (wp_mono frame _ _ fun _ => obl_post)

/-! ## The split among the tiles -/

theorem blk_disjoint : ∀ i ∈ (Finset.univ : Finset (Fin 16)), ∀ j ∈ (Finset.univ : Finset (Fin 16)), i ≠ j → Disjoint (blkSet i) (blkSet j) := by
  intro i _ j _ h
  rw [Finset.disjoint_left]
  intro x hx hy
  exact h (Fin.ext ((Finset.mem_filter.mp hx).2.symm.trans (Finset.mem_filter.mp hy).2))
theorem blk_cover : (Finset.univ : Finset (Fin 16)).biUnion blkSet = Finset.univ := by
  ext x
  have hx : (x 0).val < 1024 := (x 0).isLt
  simp only [Finset.mem_biUnion, Finset.mem_univ, true_and, iff_true]
  exact ⟨⟨(x 0).val / 128, by omega⟩, Finset.mem_filter.mpr ⟨Finset.mem_univ _, rfl⟩⟩

/-- The gathered array is its tiles' rows. -/
theorem g_rows (d : Dev nD) (f : S1024x128.Idx → Elt F .f32) :
    (gLoc d ↦{fullShare} f : sProp 𝕄) = bigSep Finset.univ fun i : Fin 16 => gLoc d ↦[blkSet i]{fullShare} f := by
  rw [← pointsTo_biUnion Finset.univ (ℓ := gLoc d) blkSet blk_disjoint, blk_cover]

/-- The operands whole are the tiles' parts and what is left of the shared two. -/
theorem whole_pieces (d : Dev nD) (f : S1024x128.Idx → Elt F .f32) :
    (whole m d f : sProp 𝕄) ⊣⊢ iprop((bigSep Finset.univ fun i : Fin 16 => piece m d i f)
      ∗ (lutLoc d ↦{Transfers.shareDrop fullShare 16} m (lutLoc d)) ∗ (ixLoc d ↦{Transfers.shareDrop fullShare 16} ixOf (F := F) (m (labLoc d)))) := by
  unfold whole piece
  rw [bigSep_sep', bigSep_sep', g_rows]
  constructor
  · iintro ⟨Hl, Hx, Hg⟩
    ihave Hl' := (Transfers.pointsTo_toks_split fullShare 16) $$ Hl
    ihave Hx' := (Transfers.pointsTo_toks_split fullShare 16) $$ Hx
    icases Hl' with ⟨Hld, Hlt⟩
    icases Hx' with ⟨Hxd, Hxt⟩
    isplitl [Hlt Hxt Hg]
    · isplitl [Hlt]; · iexact Hlt
      isplitl [Hxt]; · iexact Hxt
      iexact Hg
    isplitl [Hld]; · iexact Hld
    iexact Hxd
  · iintro ⟨⟨Hlt, Hxt, Hg⟩, Hld, Hxd⟩
    isplitl [Hld Hlt]
    · iapply (Transfers.pointsTo_toks_join fullShare 16)
      isplitl [Hld]; · iexact Hld
      iexact Hlt
    isplitl [Hxd Hxt]
    · iapply (Transfers.pointsTo_toks_join fullShare 16)
      isplitl [Hxd]; · iexact Hxd
      iexact Hxt
    iexact Hg

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The operands split among the tiles, and the tiles' results join. -/
theorem vecSplit : (K (F := F)).VecSplit' (P m) 0 := by
  intro d c
  show (if c.val = 0 then whole m d (m (gLoc d)) else iprop(emp)) ⊢ |={Set.univ}=> iprop(
      (bigSep Finset.univ fun i : Fin ((K (F := F)).nSub 0) => if c.val = 0 then piece m d (Fin.cast nSub_zero i) (m (gLoc d)) else iprop(emp))
      ∗ ((bigSep Finset.univ fun i : Fin ((K (F := F)).nSub 0) => if c.val = 0 then piece m d (Fin.cast nSub_zero i) (gOut m d) else iprop(emp))
          -∗ (if c.val = 0 then whole m d (gOut m d) else iprop(emp))))
  by_cases h : c.val = 0
  · simp only [if_pos h]
    rw [bigSep_tasks (F := F) (fun i => piece m d i (m (gLoc d))), bigSep_tasks (F := F) (fun i => piece m d i (gOut m d))]
    iintro H
    ihave H' := (whole_pieces m d (m (gLoc d))).1 $$ H
    icases H' with ⟨Hp, Hl, Hx⟩
    imodintro
    isplitl [Hp]; · iexact Hp
    iintro Hp
    iapply (whole_pieces m d (gOut m d)).2
    isplitl [Hp]; · iexact Hp
    isplitl [Hl]; · iexact Hl
    iexact Hx
  · simp only [if_neg h]
    iintro -
    imodintro
    isplitr
    · rw [show (bigSep Finset.univ fun _ : Fin ((K (F := F)).nSub 0) => iprop(emp)) = (iprop(emp) : sProp 𝕄) from bigSep_emp_const _]; iempintro
    iintro -
    iempintro

end Cert.Oim

end
-- ==== Proof.TcRun.lean ====
/-
  The TensorCore body at a grid point, by the conditionals' cases: the first point, a block of the labelled table, a
  block of the queue, the last point. Each run names what the body leaves in its scratch buffers and in its result.
-/
module

public import proofs.«01_k».proof.Proof.Setup
public import Idealize.ShloMosaic.Lib.Pipeline.FrameBody
public import Idealize.ShloMosaic.Lib.ValueIdxCore
public import Idealize.ShloMosaic.Lib.VecWindow
public import Idealize.ShloMosaic.Lib.WordCmp
public import Idealize.ShloMosaic.Lib.Exec.Geometry

@[expose] public section

set_option maxRecDepth 16384

noncomputable section

namespace Cert.Oim

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MM F

/-! ## What the scratch buffers hold -/

/-- The scratch buffers' contents: the normalised rows, their narrowed copy scaled, the sums of exponentials, and the
    count of all-zero rows. -/
structure Acc (F : FTy → Type) where
  /-- the normalised rows -/
  xn : Vec F S1024x128 .f32
  /-- the rows scaled by thirty, narrowed -/
  xb : Vec F S1024x128 .bf16
  /-- the sums of exponentials so far -/
  sm : Vec F S1024x1 .f32
  /-- the all-zero rows so far -/
  nb : Vec F S1 .i32

/-- The first point's start: rows normalised, sums and count at zero. -/
def accInit (x : Vec F S1024x128 .f32) : Acc F := ⟨k1_pay2 x, k1_pay3 x, k1_pay4, fun _ => 0#32⟩
/-- A block of the labelled table added. -/
def accLut (w : Vec F S1000x128 .f32) (a : Acc F) : Acc F :=
  ⟨a.xn, a.xb, k1_pay7 w a.xb a.sm, fun _ => Scalar.addi (a.nb (ix1 0)) (extractAt ![0, 0, 0] (k1_pay8 w) inpos_S1x1x1_p0_0_0)⟩
/-- A block of the queue added. -/
def accCq (w : Vec F S1000x128 .f32) (a : Acc F) : Acc F :=
  ⟨a.xn, a.xb, k1_pay10 w a.xb a.sm, fun _ => Scalar.addi (a.nb (ix1 0)) (extractAt ![0, 0, 0] (k1_pay11 w) inpos_S1x1x1_p0_0_0)⟩
/-- The loss, from the scratch buffers, the gathered rows and the labels. -/
def accFin (g : Vec F S1024x128 .f32) (lab : Vec F S1024x1 .i32) (a : Acc F) : Vec F S1x1 .f32 :=
  k1_pay12 (k1_pay13 (a.nb (ix1 0)) g a.xn a.sm lab)

/-! ## The conditions in closed form -/

/-- The first conditional's condition. -/
abbrev isFirst (i : grid1.Coords) : Prop := (Scalar.cmpi .ne (Scalar.extui (Scalar.cmpi .eq (BitVec.ofNat 32 (i 0).val) 0#32)) 0#32) = 1#1
/-- The second's. -/
abbrev isLut (i : grid1.Coords) : Prop := (Scalar.cmpi .ne (Scalar.extui (Scalar.cmpi .slt (BitVec.ofNat 32 (i 0).val) 100#32)) 0#32) = 1#1
/-- The third's. -/
abbrev isCq (i : grid1.Coords) : Prop := (Scalar.cmpi .ne (Scalar.extui (Scalar.cmpi .sge (BitVec.ofNat 32 (i 0).val) 100#32)) 0#32) = 1#1
/-- The fourth's. -/
abbrev isLast (i : grid1.Coords) : Prop := k1_cond4 i = 1#1

/-- The first conditional is taken at the first point alone. -/
theorem isFirst_iff : ∀ t : Fin cfg1.N, isFirst (grid1.coords t) ↔ t.val = 0 :=
  (by decide +kernel : ∀ t : Fin grid1.N, isFirst (grid1.coords t) ↔ t.val = 0)
/-- The second at the first hundred points. -/
theorem isLut_iff : ∀ t : Fin cfg1.N, isLut (grid1.coords t) ↔ t.val < 100 :=
  (by decide +kernel : ∀ t : Fin grid1.N, isLut (grid1.coords t) ↔ t.val < 100)
/-- The third from the hundredth on. -/
theorem isCq_iff : ∀ t : Fin cfg1.N, isCq (grid1.coords t) ↔ 100 ≤ t.val :=
  (by decide +kernel : ∀ t : Fin grid1.N, isCq (grid1.coords t) ↔ 100 ≤ t.val)
/-- The fourth at the last point alone. -/
theorem isLast_iff : ∀ t : Fin cfg1.N, isLast (grid1.coords t) ↔ t.val = 104 :=
  (by decide +kernel : ∀ t : Fin grid1.N, isLast (grid1.coords t) ↔ t.val = 104)

/-- A word of a one-element buffer is the one word. -/
theorem one_word {α : Type} (f : S1.Idx → α) (y : S1.Idx) : f y = f (ix1 0) :=
  congrArg f (funext fun a => Fin.ext (by have h1 := (y a).isLt; have h2 := (ix1 (n := 1) 0 a).isLt; fin_cases a; simp at h1 h2 ⊢; omega))

/-! ## The runs -/

section Runs

variable (c : Dev nD) (i : grid1.Coords) (arg1 : Memref sig .tc .vmem S1024x128 .f32) (harg1 : arg1.IsWhole) (arg2 : Memref sig .tc .vmem S1024x1 .i32) (harg2 : arg2.IsWhole) (arg3 : Memref sig .tc .vmem S1000x128 .f32) (harg3 : arg3.IsWhole) (arg4 : Memref sig .tc .vmem S1000x128 .f32) (harg4 : arg4.IsWhole) (arg5 : Memref sig .tc .vmem S1024x128 .f32) (harg5 : arg5.IsWhole) (arg6 : Memref sig .tc .vmem S1x1 .f32) (harg6 : arg6.IsWhole) (arg7 : Memref sig .tc .vmem S1024x128 .f32) (harg7 : arg7.IsWhole) (arg8 : Memref sig .tc .vmem S1024x128 .bf16) (harg8 : arg8.IsWhole) (arg9 : Memref sig .tc .vmem S1024x1 .f32) (harg9 : arg9.IsWhole) (arg10 : Memref sig .tc .smem S1 .i32) (harg10 : arg10.IsWhole)
  (x : Vec F S1024x128 .f32) (lab : Vec F S1024x1 .i32) (wl wq : Vec F S1000x128 .f32) (g : Vec F S1024x128 .f32) (o : Vec F S1x1 .f32)

/-- The windows' buffers and the scratch buffers at the given contents. -/
def held (a : Acc F) (o : Vec F S1x1 .f32) : sProp 𝕄 :=
  iprop(owns (c : Thread nD τ) arg1 fullShare x ∗ owns (c : Thread nD τ) arg2 fullShare lab ∗ owns (c : Thread nD τ) arg3 fullShare wl ∗ owns (c : Thread nD τ) arg4 fullShare wq ∗ owns (c : Thread nD τ) arg5 fullShare g ∗ owns (c : Thread nD τ) arg6 fullShare o
    ∗ owns (c : Thread nD τ) arg7 fullShare a.xn ∗ owns (c : Thread nD τ) arg8 fullShare a.xb ∗ owns (c : Thread nD τ) arg9 fullShare a.sm ∗ owns (c : Thread nD τ) arg10 fullShare a.nb)

set_option maxHeartbeats 1200000 in
/-- The last point: the queue's last block added, and the loss left in the result's buffer. -/
theorem run_last (hc0 : ¬ isFirst i) (hc1 : ¬ isLut i) (hc2 : isCq i) (hc3 : isLast i) (a : Acc F) (E : Set ℕ) (k : PUnit → sProp 𝕄) :
    iprop(held c arg1 arg2 arg3 arg4 arg5 arg6 arg7 arg8 arg9 arg10 x lab wl wq g a o
        ∗ (held c arg1 arg2 arg3 arg4 arg5 arg6 arg7 arg8 arg9 arg10 x lab wl wq g (accCq wq a) (accFin g lab (accCq wq a)) -∗ k ⟨⟩))
      ⊢ wp frame (wpE (defs₀ (F := F)) 𝒱₀ c none) E (cc1__tc_body i arg1 harg1 arg2 harg2 arg3 harg3 arg4 harg4 arg5 harg5 arg6 harg6 arg7 harg7 arg8 harg8 arg9 harg9 arg10 harg10) k := by
  simp only [cc1__tc_body_eq_skeleton]; unfold cc1__tc_body_skel
  simp only [k1_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hfs0; obtain rfl := harg8.eq_unread hfs1; obtain rfl := harg9.eq_unread hfs2; obtain rfl := harg10.eq_unread hfs3
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro
    rw [View.read_writes_full]
    dsimp only [run_last.sl.r_2, run_last.sl.r_1, run_last.sl.r, run_last.sl.v26, run_last.sl.HS2_1]
    repeat rw [View.readCov_full]
    repeat rw [View.readAt_full]
    simp only [Memref.IsWhole.read_unread]
    rw [one_word a.nb (Shape.Idx.first _)]
    rfl
  isplitl [HS0]
  · iexists _; isplitr; swap; · iexact HS0
    ipureintro; exact harg7.read_unread _
  isplitl [HS1]
  · iexists _; isplitr; swap; · iexact HS1
    ipureintro; exact harg8.read_unread _
  isplitl [HS2]
  · iexists _; isplitr; swap; · iexact HS2
    ipureintro
    unfold run_last.sl.HS2_1
    rw [View.read_writes_full]
    repeat rw [View.readAt_full]
    simp only [Memref.IsWhole.read_unread]
    rfl
  iexists _; isplitr; swap; · iexact HS3
  ipureintro
  rw [View.read_writes_full]
  dsimp only [run_last.sl.r]
  repeat rw [View.readAt_full]
  simp only [Memref.IsWhole.read_unread]
  rw [one_word a.nb (Shape.Idx.first _)]
  rfl

set_option maxHeartbeats 1200000 in
/-- A point of the queue's blocks but the last: the block added. -/
theorem run_cq (hc0 : ¬ isFirst i) (hc1 : ¬ isLut i) (hc2 : isCq i) (hc3 : ¬ isLast i) (a : Acc F) (E : Set ℕ) (k : PUnit → sProp 𝕄) :
    iprop(held c arg1 arg2 arg3 arg4 arg5 arg6 arg7 arg8 arg9 arg10 x lab wl wq g a o
        ∗ (held c arg1 arg2 arg3 arg4 arg5 arg6 arg7 arg8 arg9 arg10 x lab wl wq g (accCq wq a) o -∗ k ⟨⟩))
      ⊢ wp frame (wpE (defs₀ (F := F)) 𝒱₀ c none) E (cc1__tc_body i arg1 harg1 arg2 harg2 arg3 harg3 arg4 harg4 arg5 harg5 arg6 harg6 arg7 harg7 arg8 harg8 arg9 harg9 arg10 harg10) k := by
  simp only [cc1__tc_body_eq_skeleton]; unfold cc1__tc_body_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hfs0; obtain rfl := harg8.eq_unread hfs1; obtain rfl := harg9.eq_unread hfs2; obtain rfl := harg10.eq_unread hfs3
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [HS0]
  · iexists _; isplitr; swap; · iexact HS0
    ipureintro; exact harg7.read_unread _
  isplitl [HS1]
  · iexists _; isplitr; swap; · iexact HS1
    ipureintro; exact harg8.read_unread _
  isplitl [HS2]
  · iexists _; isplitr; swap; · iexact HS2
    ipureintro
    rw [View.read_writes_full]
    repeat rw [View.readAt_full]
    simp only [Memref.IsWhole.read_unread]
    rfl
  iexists _; isplitr; swap; · iexact HS3
  ipureintro
  rw [View.read_writes_full]
  dsimp only [run_cq.sl.v36, run_cq.sl.v35, run_cq.sl.r]
  repeat rw [View.readAt_full]
  simp only [Memref.IsWhole.read_unread]
  rw [one_word a.nb (Shape.Idx.first _)]
  rfl

set_option maxHeartbeats 1200000 in
/-- A point of the table's blocks but the first: the block added. -/
theorem run_lut (hc0 : ¬ isFirst i) (hc1 : isLut i) (hc2 : ¬ isCq i) (hc3 : ¬ isLast i) (a : Acc F) (E : Set ℕ) (k : PUnit → sProp 𝕄) :
    iprop(held c arg1 arg2 arg3 arg4 arg5 arg6 arg7 arg8 arg9 arg10 x lab wl wq g a o
        ∗ (held c arg1 arg2 arg3 arg4 arg5 arg6 arg7 arg8 arg9 arg10 x lab wl wq g (accLut wl a) o -∗ k ⟨⟩))
      ⊢ wp frame (wpE (defs₀ (F := F)) 𝒱₀ c none) E (cc1__tc_body i arg1 harg1 arg2 harg2 arg3 harg3 arg4 harg4 arg5 harg5 arg6 harg6 arg7 harg7 arg8 harg8 arg9 harg9 arg10 harg10) k := by
  simp only [cc1__tc_body_eq_skeleton]; unfold cc1__tc_body_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hfs0; obtain rfl := harg8.eq_unread hfs1; obtain rfl := harg9.eq_unread hfs2; obtain rfl := harg10.eq_unread hfs3
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [HS0]
  · iexists _; isplitr; swap; · iexact HS0
    ipureintro; exact harg7.read_unread _
  isplitl [HS1]
  · iexists _; isplitr; swap; · iexact HS1
    ipureintro; exact harg8.read_unread _
  isplitl [HS2]
  · iexists _; isplitr; swap; · iexact HS2
    ipureintro
    rw [View.read_writes_full]
    repeat rw [View.readAt_full]
    simp only [Memref.IsWhole.read_unread]
    rfl
  iexists _; isplitr; swap; · iexact HS3
  ipureintro
  rw [View.read_writes_full]
  dsimp only [run_lut.sl.v36, run_lut.sl.v35, run_lut.sl.r]
  repeat rw [View.readAt_full]
  simp only [Memref.IsWhole.read_unread]
  rw [one_word a.nb (Shape.Idx.first _)]
  rfl

set_option maxHeartbeats 1200000 in
/-- The first point: the rows normalised, the sums started, and the table's first block added. -/
theorem run_first (hc0 : isFirst i) (hc1 : isLut i) (hc2 : ¬ isCq i) (hc3 : ¬ isLast i) (a : Acc F) (E : Set ℕ) (k : PUnit → sProp 𝕄) :
    iprop(held c arg1 arg2 arg3 arg4 arg5 arg6 arg7 arg8 arg9 arg10 x lab wl wq g a o
        ∗ (held c arg1 arg2 arg3 arg4 arg5 arg6 arg7 arg8 arg9 arg10 x lab wl wq g (accLut wl (accInit x)) o -∗ k ⟨⟩))
      ⊢ wp frame (wpE (defs₀ (F := F)) 𝒱₀ c none) E (cc1__tc_body i arg1 harg1 arg2 harg2 arg3 harg3 arg4 harg4 arg5 harg5 arg6 harg6 arg7 harg7 arg8 harg8 arg9 harg9 arg10 harg10) k := by
  simp only [cc1__tc_body_eq_skeleton]; unfold cc1__tc_body_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg7.eq_unread hfs0; obtain rfl := harg8.eq_unread hfs1; obtain rfl := harg9.eq_unread hfs2; obtain rfl := harg10.eq_unread hfs3
  sl_exec (disch := first | sl_exact hc0 | sl_exact hc1 | sl_exact hc2 | sl_exact hc3)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [HS0]
  · iexists _; isplitr; swap; · iexact HS0
    ipureintro
    rw [View.read_writes_full, View.readAt_full, harg1.read_unread]
    rfl
  isplitl [HS1]
  · iexists _; isplitr; swap; · iexact HS1
    ipureintro
    unfold run_first.sl.HS1_1
    rw [View.read_writes_full, View.readAt_full, harg1.read_unread]
    rfl
  isplitl [HS2]
  · iexists _; isplitr; swap; · iexact HS2
    ipureintro
    rw [View.read_writes_full]
    dsimp only [run_first.sl.v15, run_first.sl.v17, run_first.sl.HS1_1, run_first.sl.HS2_1]
    repeat rw [View.readCov_full]
    repeat rw [View.readAt_full]
    simp only [Memref.IsWhole.read_unread]
    rfl
  iexists _; isplitr; swap; · iexact HS3
  ipureintro
  rw [View.read_writes_full]
  dsimp only [run_first.sl.v36, run_first.sl.v35]
  repeat rw [View.readAt_full]
  simp only [Memref.IsWhole.read_unread]
  rfl

end Runs

end Cert.Oim

end
-- ==== Proof.TcData.lean ====
/-
  The TensorCore call's pipeline: what each window's buffer and each scratch buffer holds at every grid point, and the
  body's obligation at every point.
-/
module

public import proofs.«01_k».proof.Proof.TcRun

@[expose] public section

set_option maxRecDepth 16384

noncomputable section

namespace Cert.Oim

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Idealize.ShloMosaic.ValueIdx (ix1 ix2 eq_ix1 eq_ix2)

variable {F : FTy → Type} [FloatOps F]

local notation "𝕄" => MM F

/-! ## The blocks and the running state, from the arrays -/

/-- Block `n` of the labelled table: its rows `1000 n` to `1000 n + 999`. -/
def lutBlk (lut : S100000x128.Idx → Elt F .f32) (n : ℕ) : Vec F S1000x128 .f32 :=
  fun j => lut (ix2 ⟨(1000 * n + (j 0).val) % 100000, Nat.mod_lt _ (by decide)⟩ (j 1))
/-- Block `n` of the queue. -/
def cqBlk (cq : S5000x128.Idx → Elt F .f32) (n : ℕ) : Vec F S1000x128 .f32 :=
  fun j => cq (ix2 ⟨(1000 * n + (j 0).val) % 5000, Nat.mod_lt _ (by decide)⟩ (j 1))

/-- The scratch buffers after `n` points. -/
def accAt (x : S1024x128.Idx → Elt F .f32) (lut : S100000x128.Idx → Elt F .f32) (cq : S5000x128.Idx → Elt F .f32) : ℕ → Acc F
  | 0 => accInit x
  | n + 1 => if n < 100 then accLut (lutBlk lut n) (accAt x lut cq n) else accCq (cqBlk cq (n - 100)) (accAt x lut cq n)

/-- The loss the call leaves. -/
def lossOf (x : S1024x128.Idx → Elt F .f32) (lab : S1024x1.Idx → Elt F .i32) (lut : S100000x128.Idx → Elt F .f32) (cq : S5000x128.Idx → Elt F .f32)
    (g : S1024x128.Idx → Elt F .f32) : S1x1.Idx → Elt F .f32 :=
  accFin g lab (accAt x lut cq 105)

/-! ## The windows' blocks -/

/-- The table's window is at its block `t` for the first hundred points. -/
theorem index2 : ∀ t : Fin cfg1.N, t.val < 100 → cc1_transform_2 (grid1.coords t) = ![t.val, 0] :=
  (by decide +kernel : ∀ t : Fin grid1.N, t.val < 100 → cc1_transform_2 (grid1.coords t) = ![t.val, 0])
/-- The queue's window is at its block `t - 100` from the hundredth point on. -/
theorem index3 : ∀ t : Fin cfg1.N, 100 ≤ t.val → cc1_transform_3 (grid1.coords t) = ![t.val - 100, 0] :=
  (by decide +kernel : ∀ t : Fin grid1.N, 100 ≤ t.val → cc1_transform_3 (grid1.coords t) = ![t.val - 100, 0])

/-- The table's block as the window reads it. -/
theorem blk2_read (t : Fin cfg1.N) (ht : t.val < 100) (f : S100000x128.Idx → Elt F .f32) :
    ((cfg1.win 2).blk t).view.read (Elt F) f = lutBlk f t.val := by
  funext j
  show f _ = f _
  refine congrArg f (funext fun a => Fin.ext ?_)
  have h0 : (((cfg1.win 2).blk t).view.emb j a).val = cc1_transform_2 (grid1.coords t) a * S1000x128.size a + 1 * (j a).val := rfl
  have hj : (j 0).val < 1000 := (j 0).isLt
  rw [h0, index2 t ht]
  have ht' := ht
  generalize t.val = u at ht' ⊢
  fin_cases a
  · show u * 1000 + 1 * (j 0).val = (1000 * u + (j 0).val) % 100000
    rw [Nat.mod_eq_of_lt (by omega)]; omega
  · show 0 * 128 + 1 * (j 1).val = (j 1).val
    omega

/-- The queue's block as the window reads it. -/
theorem blk3_read (t : Fin cfg1.N) (ht : 100 ≤ t.val) (f : S5000x128.Idx → Elt F .f32) :
    ((cfg1.win 3).blk t).view.read (Elt F) f = cqBlk f (t.val - 100) := by
  funext j
  show f _ = f _
  refine congrArg f (funext fun a => Fin.ext ?_)
  have h0 : (((cfg1.win 3).blk t).view.emb j a).val = cc1_transform_3 (grid1.coords t) a * S1000x128.size a + 1 * (j a).val := rfl
  have hj : (j 0).val < 1000 := (j 0).isLt
  have hN : t.val < 105 := lt_of_lt_of_eq t.isLt (show cfg1.N = 105 from N_1)
  rw [h0, index3 t ht]
  have hu : t.val - 100 < 5 := by omega
  generalize t.val - 100 = u at hu ⊢
  fin_cases a
  · show u * 1000 + 1 * (j 0).val = (1000 * u + (j 0).val) % 5000
    rw [Nat.mod_eq_of_lt (by omega)]; omega
  · show 0 * 128 + 1 * (j 1).val = (j 1).val
    omega

/-- The rows to project are one block. -/
theorem blk0_read (t : Fin cfg1.N) (f : S1024x128.Idx → Elt F .f32) :
    ((cfg1.win 0).blk t).view.read (Elt F) f = f := by
  funext j
  show f _ = f _
  refine congrArg f (funext fun a => Fin.ext ?_)
  have h0 : (((cfg1.win 0).blk t).view.emb j a).val = 0 * S1024x128.size a + 1 * (j a).val := by
    fin_cases a <;> rfl
  omega

/-- The labels are one block. -/
theorem blk1_read (t : Fin cfg1.N) (f : S1024x1.Idx → Elt F .i32) :
    ((cfg1.win 1).blk t).view.read (Elt F) f = f := by
  funext j
  show f _ = f _
  refine congrArg f (funext fun a => Fin.ext ?_)
  have h0 : (((cfg1.win 1).blk t).view.emb j a).val = 0 * S1024x1.size a + 1 * (j a).val := by
    fin_cases a <;> rfl
  omega

/-- The gathered rows are one block. -/
theorem blk4_read (t : Fin cfg1.N) (f : S1024x128.Idx → Elt F .f32) :
    ((cfg1.win 4).blk t).view.read (Elt F) f = f := by
  funext j
  show f _ = f _
  refine congrArg f (funext fun a => Fin.ext ?_)
  have h0 : (((cfg1.win 4).blk t).view.emb j a).val = 0 * S1024x128.size a + 1 * (j a).val := by
    fin_cases a <;> rfl
  omega

/-- The result is one block. -/
theorem blk5_read (t : Fin cfg1.N) (f : S1x1.Idx → Elt F .f32) :
    ((cfg1.win 5).blk t).view.read (Elt F) f = f := by
  funext j
  show f _ = f _
  refine congrArg f (funext fun a => Fin.ext ?_)
  have h0 : (((cfg1.win 5).blk t).view.emb j a).val = 0 * S1x1.size a + 1 * (j a).val := by
    fin_cases a <;> rfl
  omega

/-! ## The proof data -/

/-- The arrays' contents as the call finds them. -/
structure Ent (F : FTy → Type) where
  /-- the rows to project -/
  x : S1024x128.Idx → Elt F .f32
  /-- the labels, as a column -/
  lab : S1024x1.Idx → Elt F .i32
  /-- the labelled table -/
  lut : S100000x128.Idx → Elt F .f32
  /-- the queue -/
  cq : S5000x128.Idx → Elt F .f32
  /-- the gathered rows -/
  g : S1024x128.Idx → Elt F .f32
  /-- the result's array -/
  o : S1x1.Idx → Elt F .f32

/-- The state after `n` points. -/
abbrev Ent.acc (e : Ent F) (n : ℕ) : Acc F := accAt e.x e.lut e.cq n
/-- The loss. -/
abbrev Ent.loss (e : Ent F) : S1x1.Idx → Elt F .f32 := lossOf e.x e.lab e.lut e.cq e.g

/-- The scratch buffers at a state. -/
def scr (c : Dev nD) (a : Acc F) : sProp 𝕄 :=
  iprop(owns (c : Thread nD τ) (Memref.whole cc1_scratch0 : Memref sig .tc .vmem S1024x128 .f32) fullShare a.xn ∗ owns (c : Thread nD τ) (Memref.whole cc1_scratch1 : Memref sig .tc .vmem S1024x128 .bf16) fullShare a.xb
    ∗ owns (c : Thread nD τ) (Memref.whole cc1_scratch2 : Memref sig .tc .vmem S1024x1 .f32) fullShare a.sm ∗ owns (c : Thread nD τ) (Memref.whole cc1_scratch3 : Memref sig .tc .smem S1 .i32) fullShare a.nb)

/-- The invariant before point `n`: the scratch buffers at the state so far, at anything before the first point. -/
def Phi (e : Ent F) (c : Dev nD) (n : ℕ) : sProp 𝕄 := iprop(∃ a : Acc F, ⌜n ≠ 0 → a = e.acc n⌝ ∗ scr c a)

/-- The pairs the core's waits may have recorded by then: those of the handshakes before the call. -/
def recd (c : Dev nD) : Set (SemLoc sig × HIx 1) := {p | (K (F := F)).lev ((c.tc : Thread nD τ), p.1) p.2 ≤ 8 * SparseCore.Cfg.Blocks.fst (Q := 1) (N := 1) 1}

/-- The call's proof data. -/
def dat1 (e : Ent F) (c : Dev nD) : Dat τ (Elt F) (HIx 1) ℕ UU ℕ cfg1 c where
  A w := match w with
    | ⟨0, _⟩ => e.x
    | ⟨1, _⟩ => e.lab
    | ⟨2, _⟩ => e.lut
    | ⟨3, _⟩ => e.cq
    | ⟨4, _⟩ => e.g
    | ⟨5, _⟩ => e.o
  after w t := match w with
    | ⟨0, _⟩ => e.x
    | ⟨1, _⟩ => e.lab
    | ⟨2, _⟩ => ((cfg1.win 2).blk t).view.read (Elt F) e.lut
    | ⟨3, _⟩ => ((cfg1.win 3).blk t).view.read (Elt F) e.cq
    | ⟨4, _⟩ => e.g
    | ⟨5, _⟩ => e.loss
  Φ t := Phi e c t.val
  q _ := fullShare
  owed _ := 0
  recorded _ := recd (F := F) c

/-! ## What the body is handed -/

/-- The input windows' buffers hold their blocks at every point. -/
theorem before_0 (e : Ent F) (c : Dev nD) (t : Fin cfg1.N) (d) : (dat1 e c).before 0 t d = e.x :=
  ((dat1 e c).before_in_eq_fetched 0 rfl (fun _ => rfl) (fun _ _ _ => rfl) (fun t => (blk0_read t e.x).symm) t d).trans (blk0_read t e.x)
theorem before_1 (e : Ent F) (c : Dev nD) (t : Fin cfg1.N) (d) : (dat1 e c).before 1 t d = e.lab :=
  ((dat1 e c).before_in_eq_fetched 1 rfl (fun _ => rfl) (fun _ _ _ => rfl) (fun t => (blk1_read t e.lab).symm) t d).trans (blk1_read t e.lab)
theorem before_2 (e : Ent F) (c : Dev nD) (t : Fin cfg1.N) (d) : (dat1 e c).before 2 t d = ((cfg1.win 2).blk t).view.read (Elt F) e.lut :=
  ((dat1 e c).before_in_eq_fetched 2 rfl (fun _ => rfl) (fun _ _ _ => rfl) (fun t => rfl) t d).trans rfl
theorem before_3 (e : Ent F) (c : Dev nD) (t : Fin cfg1.N) (d) : (dat1 e c).before 3 t d = ((cfg1.win 3).blk t).view.read (Elt F) e.cq :=
  ((dat1 e c).before_in_eq_fetched 3 rfl (fun _ => rfl) (fun _ _ _ => rfl) (fun t => rfl) t d).trans rfl
theorem before_4 (e : Ent F) (c : Dev nD) (t : Fin cfg1.N) (d) : (dat1 e c).before 4 t d = e.g :=
  ((dat1 e c).before_in_eq_fetched 4 rfl (fun _ => rfl) (fun _ _ _ => rfl) (fun t => (blk4_read t e.g).symm) t d).trans (blk4_read t e.g)

/-! ## The body's obligation -/

/-- The body table's row at point `t`'s slots is the body. -/
theorem row1 (t : Fin cfg1.N) : defs₀ (F := F) .tc cfg1.body (cfg1.bodyArgs t (cfg1.slots t)) = bodyAt1 t := by
  unfold defs₀; rfl

/-- The buffers at point `t`, the inputs' at their blocks. -/
abbrev heldAt (e : Ent F) (c : Dev nD) (t : Fin cfg1.N) (a : Acc F) (o : Vec F S1x1 .f32) : sProp 𝕄 :=
  held c (st1_0 t) (st1_1 t) (st1_2 t) (st1_3 t) (st1_4 t) (st1_5 t) (Memref.whole cc1_scratch0) (Memref.whole cc1_scratch1) (Memref.whole cc1_scratch2) (Memref.whole cc1_scratch3)
    e.x e.lab (((cfg1.win 2).blk t).view.read (Elt F) e.lut) (((cfg1.win 3).blk t).view.read (Elt F) e.cq) e.g a o

/-- One point of the grid, from the state before it to the state after it. -/
theorem step (e : Ent F) (c : Dev nD) (t : Fin cfg1.N) (a : Acc F) (ha : t.val ≠ 0 → a = e.acc t.val) (o : Vec F S1x1 .f32) (k : PUnit → sProp 𝕄) :
    iprop(heldAt e c t a o ∗ (heldAt e c t (e.acc (t.val + 1)) (if t.val = 104 then e.loss else o) -∗ k ⟨⟩))
      ⊢ wp frame (wpE (defs₀ (F := F)) 𝒱₀ c none) Set.univ (bodyAt1 t) k := by
  have hN : t.val < 105 := lt_of_lt_of_eq t.isLt (show cfg1.N = 105 from N_1)
  by_cases h0 : t.val = 0
  · have e1 : e.acc (t.val + 1) = accLut (((cfg1.win 2).blk t).view.read (Elt F) e.lut) (accInit e.x) := by
      rw [blk2_read t (by omega), h0]; rfl
    rw [e1, if_neg (by omega)]
    exact run_first c _ _ _ _ _ _ _ _ _ _ _ _ _ _ _ _ _ _ _ _ _ _ _ _ _ _ _ ((isFirst_iff t).mpr h0) ((isLut_iff t).mpr (by omega)) (fun h => absurd ((isCq_iff t).mp h) (by omega)) (fun h => absurd ((isLast_iff t).mp h) (by omega)) a _ k
  · obtain rfl := ha h0
    by_cases h1 : t.val < 100
    · have e1 : e.acc (t.val + 1) = accLut (((cfg1.win 2).blk t).view.read (Elt F) e.lut) (e.acc t.val) := by
        rw [blk2_read t h1]; show (if _ then _ else _) = _; rw [if_pos h1]
      rw [e1, if_neg (by omega)]
      exact run_lut c _ _ _ _ _ _ _ _ _ _ _ _ _ _ _ _ _ _ _ _ _ _ _ _ _ _ _ (fun h => absurd ((isFirst_iff t).mp h) (by omega)) ((isLut_iff t).mpr (by omega)) (fun h => absurd ((isCq_iff t).mp h) (by omega)) (fun h => absurd ((isLast_iff t).mp h) (by omega)) _ _ k
    · have e1 : e.acc (t.val + 1) = accCq (((cfg1.win 3).blk t).view.read (Elt F) e.cq) (e.acc t.val) := by
        rw [blk3_read t (by omega)]; show (if _ then _ else _) = _; rw [if_neg h1]
      by_cases h2 : t.val = 104
      · have e2 : e.loss = accFin e.g e.lab (accCq (((cfg1.win 3).blk t).view.read (Elt F) e.cq) (e.acc t.val)) := by
          rw [← e1, h2]; rfl
        rw [e1, if_pos h2, e2]
        exact run_last c _ _ _ _ _ _ _ _ _ _ _ _ _ _ _ _ _ _ _ _ _ _ _ _ _ _ _ (fun h => absurd ((isFirst_iff t).mp h) (by omega)) (fun h => absurd ((isLut_iff t).mp h) (by omega)) ((isCq_iff t).mpr (by omega)) ((isLast_iff t).mpr (by omega)) _ _ k
      · rw [e1, if_neg h2]
        exact run_cq c _ _ _ _ _ _ _ _ _ _ _ _ _ _ _ _ _ _ _ _ _ _ _ _ _ _ _ (fun h => absurd ((isFirst_iff t).mp h) (by omega)) (fun h => absurd ((isLut_iff t).mp h) (by omega)) ((isCq_iff t).mpr (by omega)) (fun h => absurd ((isLast_iff t).mp h) (by omega)) _ _ k

/-- The result's window is idle at every point but the last. -/
theorem idle5 (t : Fin cfg1.N) : cfg1.idle 5 (cfg1.grid.coords t) = !decide (t.val = 104) := by
  show (!(k1_cond4 (grid1.coords t) == 1#1)) = _
  rw [show (k1_cond4 (grid1.coords t) == 1#1) = decide (t.val = 104) from by
    rw [Bool.eq_iff_iff, beq_iff_eq, decide_eq_true_iff]; exact isLast_iff t]
/-- It is written back at the last point alone. -/
theorem flush5 (t : Fin cfg1.N) : (cfg1.win 5).flush t = decide (t.val = 104) := by
  have hN : t.val < 105 := lt_of_lt_of_eq t.isLt (show cfg1.N = 105 from N_1)
  rw [Bool.eq_iff_iff, decide_eq_true_iff, flush1_5 t]; omega

/-- The body's obligation at every point. -/
theorem body1 (e : Ent F) (c : Dev nD) : BodyObligation (dat1 e c) (defs₀ (F := F)) 𝒱₀ none Set.univ := fun t => by
  rw [bigSep_W1, bigSep_W1, row1]
  show iprop(Phi e c t.val ∗ (dat1 e c).owesAt none t.castSucc
      ∗ (∃ d, owns (c : Thread nD τ) (st1_0 t) fullShare ((dat1 e c).before 0 t d)) ∗ (∃ d, owns (c : Thread nD τ) (st1_1 t) fullShare ((dat1 e c).before 1 t d))
      ∗ (∃ d, owns (c : Thread nD τ) (st1_2 t) fullShare ((dat1 e c).before 2 t d)) ∗ (∃ d, owns (c : Thread nD τ) (st1_3 t) fullShare ((dat1 e c).before 3 t d))
      ∗ (∃ d, owns (c : Thread nD τ) (st1_4 t) fullShare ((dat1 e c).before 4 t d)) ∗ (∃ d, owns (c : Thread nD τ) (st1_5 t) fullShare ((dat1 e c).before 5 t d)))
    ⊢ wp frame (wpE (defs₀ (F := F)) 𝒱₀ c none) Set.univ (bodyAt1 t) fun _ =>
      iprop(Phi e c (t.val + 1) ∗ (dat1 e c).owesAt none t.castSucc
      ∗ owns (c : Thread nD τ) (st1_0 t) fullShare e.x ∗ owns (c : Thread nD τ) (st1_1 t) fullShare e.lab
      ∗ owns (c : Thread nD τ) (st1_2 t) fullShare (((cfg1.win 2).blk t).view.read (Elt F) e.lut) ∗ owns (c : Thread nD τ) (st1_3 t) fullShare (((cfg1.win 3).blk t).view.read (Elt F) e.cq)
      ∗ owns (c : Thread nD τ) (st1_4 t) fullShare e.g ∗ (dat1 e c).leavesExact 5 t)
  simp only [before_0, before_1, before_2, before_3, before_4]
  unfold Phi scr
  iintro ⟨⟨%a, %ha, HS0, HS1, HS2, HS3⟩, Ho, ⟨%d0, H0⟩, ⟨%d1, H1⟩, ⟨%d2, H2⟩, ⟨%d3, H3⟩, ⟨%d4, H4⟩, ⟨%d5, H5⟩⟩
  iapply (step e c t a ha ((dat1 e c).before 5 t d5) _)
  unfold heldAt held
  isplitr [Ho]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iexact HS3
  iintro ⟨H0, H1, H2, H3, H4, H5, HS0, HS1, HS2, HS3⟩
  isplitl [HS0 HS1 HS2 HS3]
  · iexists (e.acc (t.val + 1))
    isplitr; · ipureintro; exact fun _ => rfl
    isplitl [HS0]; · iexact HS0
    isplitl [HS1]; · iexact HS1
    isplitl [HS2]; · iexact HS2
    iexact HS3
  isplitl [Ho]; · iexact Ho
  isplitl [H0]; · iexact H0
  isplitl [H1]; · iexact H1
  isplitl [H2]; · iexact H2
  isplitl [H3]; · iexact H3
  isplitl [H4]; · iexact H4
  by_cases h : t.val = 104
  · rw [show (dat1 e c).leavesExact 5 t = owns (c : Thread nD τ) (st1_5 t) fullShare e.loss from by
      unfold Dat.leavesExact; rw [idle5 t, decide_eq_true h]; rfl, if_pos h]
    iexact H5
  · rw [(dat1 e c).leavesExact_idle 5 t (by rw [idle5 t, decide_eq_false h]; rfl) (by rw [flush5 t, decide_eq_false h]), if_neg h]
    iexists d5; iexact H5

end Cert.Oim

end
-- ==== Proof.Region.lean ====
/-
  The TensorCore call as a step of `main`: entered with its six arrays whole, left with the five it reads as they were
  and the loss in the sixth.
-/
module

public import proofs.«01_k».proof.Proof.TcData
public import Idealize.ShloMosaic.Lib.Pipeline.Value
public import Idealize.ShloMosaic.Lib.Pipeline.RegionArrays

@[expose] public section

set_option maxRecDepth 16384

noncomputable section

namespace Cert.Oim

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf RegionSeg OwnSemFacts pin)

variable {F : FTy → Type} [FloatOps F]

local notation "𝕄" => MM F

/-! ## The arrays at the end -/

/-- The loss's array ends at the loss. -/
theorem arrAt_5 (e : Ent F) (c : Dev nD) : (dat1 e c).arrAt 5 cfg1.N = e.loss := by
  refine Dat.arrAt_eq_of_cover (dat1 e c) 5 e.loss (fun t _ => (blk5_read t e.loss).symm) fun i => ?_
  have hN : 104 < cfg1.N := by rw [show cfg1.N = 105 from N_1]; decide
  refine ⟨⟨104, hN⟩, (flush1_5 _).mpr rfl, ?_⟩
  have hi : @Eq S1x1.Idx i (((cfg1.win 5).blk ⟨104, hN⟩).view.emb (ValueIdx.ix2 (i 0) (i 1))) := by
    funext a
    apply Fin.ext
    fin_cases a
    · show (i 0).val = 0 * 1 + 1 * (i 0).val; omega
    · show (i 1).val = 0 * 1 + 1 * (i 1).val; omega
  exact (congrArg (fun z : S1x1.Idx => z ∈ (show Finset S1x1.Idx from ((cfg1.win 5).blk ⟨104, hN⟩).view.set)) hi).mpr (((cfg1.win 5).blk ⟨104, hN⟩).view.emb_mem_set (ValueIdx.ix2 (i 0) (i 1)))

/-- The call's six arrays, the loss's at `o`. -/
def tcArrs (e : Ent F) (c : Dev nD) (o : S1x1.Idx → Elt F .f32) : sProp 𝕄 :=
  iprop((xLoc c ↦{fullShare} e.x) ∗ ((c : Thread nD τ).loc main_v4 ↦{fullShare} e.lab) ∗ (lutLoc c ↦{fullShare} e.lut)
    ∗ (cqLoc c ↦{fullShare} e.cq) ∗ (gLoc c ↦{fullShare} e.g) ∗ ((c : Thread nD τ).loc main_v5 ↦{fullShare} o))

/-- No pipeline prefetches a table. -/
abbrev adm : (p : Fin 1) → (pcfgs (F := F) p).Adm := fun p => (cfgs p).toPCfg_adm

/-- The proof data of every pipeline. -/
def pdats (e : Dev nD → Ent F) : (p : Fin 1) → (c : Dev nD) → Dat τ (Elt F) (HIx 1) ℕ UU ℕ (pin (pcfgs (F := F)) adm p) c :=
  fun _ c => dat1 (e c) c

/-- The windows' arrays, one by one. -/
theorem arrays1 (e : Dev nD → Ent F) (c : Dev nD) (n : ℕ) (o : S1x1.Idx → Elt F .f32) (ho : (dat1 (e c) c).arrAt 5 n = o) :
    (pdats e 0 c).arrays ((pdats e 0 c).arrAt · n) = tcArrs (e c) c o := by
  rw [Pipeline.arrays_eq (pin (pcfgs (F := F)) adm) (pdats e) 0 c arr_whole1 (fun w => by unfold Dat.share; split <;> rfl)]
  refine (bigSep_W1 _).trans ?_
  show iprop((_ ↦{fullShare} (dat1 (e c) c).arrAt 0 n) ∗ (_ ↦{fullShare} (dat1 (e c) c).arrAt 1 n) ∗ (_ ↦{fullShare} (dat1 (e c) c).arrAt 2 n)
    ∗ (_ ↦{fullShare} (dat1 (e c) c).arrAt 3 n) ∗ (_ ↦{fullShare} (dat1 (e c) c).arrAt 4 n) ∗ (_ ↦{fullShare} (dat1 (e c) c).arrAt 5 n)) = _
  rw [ho, Dat.arrAt_in (dat1 (e c) c) 0 rfl, Dat.arrAt_in (dat1 (e c) c) 1 rfl, Dat.arrAt_in (dat1 (e c) c) 2 rfl, Dat.arrAt_in (dat1 (e c) c) 3 rfl, Dat.arrAt_in (dat1 (e c) c) 4 rfl]
  rfl

/-- The waits recorded so far are no higher than the SparseCore call's block. -/
def owed0 (c : Dev nD) : sProp 𝕄 :=
  iprop(∃ W, ⌜(K (F := F)).WBelow (SparseCore.T c) W (8 * SparseCore.Cfg.Blocks.fst (Q := 1) (N := 1) 1)⌝ ∗ owes (SparseCore.T c) (0 : CellTallies nD τ sig (HIx 1)) W)

/-- The scratch buffers at any contents are the invariant before the first point. -/
theorem hin1 (e : Ent F) (c : Dev nD) (n : ℕ) (hn : n = 0) : (Pipeline.scopedRest spec1 c : sProp 𝕄) ⊢ Phi e c n := by
  rw [scopedRest1_eq]
  unfold Phi scr
  simp only [owns_whole]
  iintro ⟨⟨%f0, H0⟩, ⟨%f1, H1⟩, ⟨%f2, H2⟩, ⟨%f3, H3⟩⟩
  iexists (⟨f0, f1, f2, f3⟩ : Acc F)
  isplitr; · ipureintro; exact fun h => absurd hn h
  isplitl [H0]; · iexact H0
  isplitl [H1]; · iexact H1
  isplitl [H2]; · iexact H2
  iexact H3

/-- The invariant gives the scratch buffers back. -/
theorem hout1 (e : Ent F) (c : Dev nD) (n : ℕ) : Phi e c n ⊢ (Pipeline.scopedRest spec1 c : sProp 𝕄) := by
  rw [scopedRest1_eq]
  unfold Phi scr
  simp only [owns_whole]
  iintro ⟨%a, -, H0, H1, H2, H3⟩
  isplitl [H0]; · iexists _; iexact H0
  isplitl [H1]; · iexists _; iexact H1
  isplitl [H2]; · iexists _; iexact H2
  iexists _; iexact H3

/-- The TensorCore call. -/
def region1 (e : Dev nD → Ent F) :
    RegionSeg (pcfgs (F := F)) adm (pdats e) none (defs₀ (F := F)) 𝒱₀ (K (F := F)).L (K (F := F)).lev 0 where
  win := launch1.win.to₀
  block_pos := block_pos1
  stage_whole := stage_whole1
  K := PEmpty
  osem k := k.elim
  ho := OwnSemFacts.none _
  hbody c := (body1 (e c) c).loose
  hwaits := Pipeline.hwaits_of_owed_zero (pcfgs (F := F)) adm (pdats e) none (K (F := F)).L (K (F := F)).lev 0 fun _ _ => rfl
  pre c := iprop(tcArrs (e c) c (e c).o ∗ owed0 c)
  post c := iprop(tcArrs (e c) c (e c).loss ∗ owed0 c)
  X _ := iprop(emp)
  Y _ := iprop(emp)
  Z _ := iprop(emp)
  hentry c := by
    rw [Pipeline.ownSems0_none, Pipeline.prefHeld_of_none _ rfl, arrays1 e c 0 (e c).o rfl]
    iintro ⟨⟨Ha, HO⟩, -, -⟩
    imodintro
    isplitl [Ha]; · iexact Ha
    isplitr; · iempintro
    isplitl [HO]
    · unfold owed0
      icases HO with ⟨%W, %hW, HO⟩
      iexists W; isplitr
      · ipureintro; exact fun p hp => Or.inl (hW p hp)
      iexact HO
    isplitr; · iempintro
    iempintro
  hin c := by
    refine BIBase.Entails.trans ?_ (hin1 (e c) c (0 : Fin (cfg1.N + 1)).val rfl)
    iintro ⟨-, -, Hr⟩
    iexact Hr
  hout c := by
    rw [Pipeline.ownSems0_none]
    refine (hout1 (e c) c (Fin.last cfg1.N).val).trans ?_
    iintro H
    isplitr; · iempintro
    isplitr; · iempintro
    iexact H
  hexit c := by
    rw [arrays1 e c _ (e c).loss (arrAt_5 (e c) c)]
    iintro ⟨Ha, HO, -, -⟩
    imodintro
    isplitl [Ha]; · iexact Ha
    unfold owed0
    icases HO with ⟨%W, %hW, HO⟩
    iexists W; isplitr
    · ipureintro
      intro p hp
      rcases hW hp with h | ⟨w, s, rfl⟩
      · exact h
      · exact Nat.zero_le _
    iexact HO

end Cert.Oim

end
-- ==== Proof.Launch.lean ====
/-
  The program's run: the launch's ghost state, the entry function on the TensorCore (four host operations, the SparseCore
  call, a reshape, the TensorCore call, a last reshape), and what every run ends with.
-/
module

public import proofs.«01_k».proof.Proof.Tiles
public import proofs.«01_k».proof.Proof.Region
public import Idealize.ShloMosaic.Lib.SparseCore.Quiescent

@[expose] public section

set_option maxRecDepth 16384

noncomputable section

namespace Cert.Oim

open Cert.KernelIdeal Cert.KernelIdeal.Gen
open Idealize.ShloMosaic
open Idealize.ShloMosaic.SparseCore (S V T)
open Idealize.ShloMosaic.SparseCore.Cfg (HIx Pay)
open Idealize.ShloMosaic.StableHlo (wp_hlo_within)
open Idealize.ShloMosaic.Pipeline (RegionSeg Dat pin cells launchToks cellsGhost toksInit fund_ghost)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

variable (m : (ℓ : Loc nD τ sig) → Buf (Elt F) ℓ) (ρ : Dev nD → PrngReg)

/-! ## The values of a run -/

/-- The labels as the column the TensorCore call reads. -/
def labOf (lab : S1024.Idx → Elt F .i32) : S1024x1.Idx → Elt F .i32 :=
  fun i => shapeCast S1024x1 lab shapeCasts_S1024_S1024x1 i
/-- What the TensorCore call finds on device `d`. -/
def entOf (d : Dev nD) : Ent F where
  x := m (xLoc d)
  lab := labOf (F := F) (m (labLoc d))
  lut := m (lutLoc d)
  cq := m (cqLoc d)
  g := gOut m d
  o := m ((SparseCore.T d).loc main_v5)
/-- The program's result on device `d`. -/
def outOf (d : Dev nD) : S_.Idx → Elt F .f32 :=
  fun i => shapeCast S_ (entOf m d).loss shapeCasts_S1x1_S_ i

/-! ## The launch element of the ghost state -/

/-- The pipeline's staging cells are distinct. -/
theorem cellsInj : Function.Injective (Pipeline.cellOf (nD := nD) (τ := τ) (pin (pcfgs (F := F)) adm)) := cellOf_inj

/-- The handshakes' rounds, the pipeline's rounds and no counter. -/
def u₀ : UU := (initOf (K (F := F)).hsCells (K (F := F)).hsToks,
  (initOf (cells (pin (pcfgs (F := F)) adm) cellsInj) (launchToks (pin (pcfgs (F := F)) adm) cellsInj), 1))

/-- The pipeline's ghost state on device `d`. -/
def G (d : Dev nD) : sProp 𝕄 :=
  iprop(cellsGhost (pin (pcfgs (F := F)) adm) (EP (F := F)) 0 d ∗ toksInit (pin (pcfgs (F := F)) adm) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_pair _ _) $$ Hu
  icases H with ⟨HH, HP⟩
  ihave H := (own_pair_emb embR _ _) $$ HP
  icases H with ⟨HP, -⟩
  imod (fund_ghost (pin (pcfgs (F := F)) adm) (EP (F := F)) cellsInj) $$ HP with ⟨Hg, Ht⟩
  imodintro
  isplitl [HH]; · iexact HH
  isplitl [Hg Ht]
  · unfold G
    rw [bigSep_sep']
    isplitl [Hg]
    · rw [show (bigSep Finset.univ fun d : Dev nD => cellsGhost (pin (pcfgs (F := F)) adm) (EP (F := F)) 0 d : sProp 𝕄)
        = bigSep Finset.univ fun c : Dev nD => bigSep Finset.univ fun p => cellsGhost (pin (pcfgs (F := F)) adm) (EP (F := F)) p c from
          bigSep_congr fun _ _ => by rw [bigSep_univ_of_subsingleton (0 : Fin 1)]]
      iexact Hg
    · rw [show (bigSep Finset.univ fun d : Dev nD => toksInit (pin (pcfgs (F := F)) adm) (EP (F := F)) 0 d : sProp 𝕄)
        = bigSep Finset.univ fun c : Dev nD => bigSep Finset.univ fun p => toksInit (pin (pcfgs (F := F)) adm) (EP (F := F)) p c from
          bigSep_congr fun _ _ => by rw [bigSep_univ_of_subsingleton (0 : Fin 1)]]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The entry function -/

abbrev lab' : DevRef τ sig := Proc.devRef .tc (main_arg1 : Ref sig .tc)
abbrev c' : DevRef τ sig := Proc.devRef .tc (main_c : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev opC : HloOp τ sig (Elt F) := StableHlo.nullary main_c (constantI S_ 32 99999#32)
abbrev opB : HloOp τ sig (Elt F) := StableHlo.unary main_c main_v0
  (broadcastInDim S1024 ![] bcast_S_S1024 : (⟨S_, .i32⟩ : BufTy).Contents (Elt F) → (⟨S1024, .i32⟩ : BufTy).Contents (Elt F))
abbrev opM : HloOp τ sig (Elt F) := StableHlo.binary main_arg1 main_v0 main_v1
  (minsi : (⟨S1024, .i32⟩ : BufTy).Contents (Elt F) → (⟨S1024, .i32⟩ : BufTy).Contents (Elt F) → (⟨S1024, .i32⟩ : BufTy).Contents (Elt F))
abbrev opR : HloOp τ sig (Elt F) := StableHlo.reshape main_v1 main_v2 (rfl : (.i32 : EltTy) = .i32) shapeCasts_S1024_S1x1024
abbrev opL : HloOp τ sig (Elt F) := StableHlo.reshape main_arg1 main_v4 (rfl : (.i32 : EltTy) = .i32) shapeCasts_S1024_S1024x1
abbrev opO : HloOp τ sig (Elt F) := StableHlo.reshape main_v5 main_v6 (rfl : (.f32 : EltTy) = .f32) shapeCasts_S1x1_S_

/-- The arrays of the operations before the calls, -/
abbrev SA : Finset (DevRef τ sig) := {lab', c', v0', v1', v2'}
/-- of the one between them, -/
abbrev SB : Finset (DevRef τ sig) := {lab', v4'}
/-- and of the last. -/
abbrev SC : Finset (DevRef τ sig) := {v5', v6'}

omit [FloatOps F] in
theorem held_SA (d : Dev nD) (W : Valuation τ sig (Elt F)) :
    (StableHlo.held (SparseCore.T d) SA W : sProp 𝕄)
      = iprop((labLoc d ↦{fullShare} W lab') ∗ ((SparseCore.T d).loc main_c ↦{fullShare} W c') ∗ ((SparseCore.T d).loc main_v0 ↦{fullShare} W v0')
          ∗ ((SparseCore.T d).loc main_v1 ↦{fullShare} W v1') ∗ ixLoc d ↦{fullShare} W v2') := by
  unfold StableHlo.held SA
  rw [SparseCore.bigSep_insert' (by decide), SparseCore.bigSep_insert' (by decide), SparseCore.bigSep_insert' (by decide),
    SparseCore.bigSep_insert' (by decide), bigSep_singleton]
omit [FloatOps F] in
theorem held_SB (d : Dev nD) (W : Valuation τ sig (Elt F)) :
    (StableHlo.held (SparseCore.T d) SB W : sProp 𝕄) = iprop((labLoc d ↦{fullShare} W lab') ∗ (SparseCore.T d).loc main_v4 ↦{fullShare} W v4') := by
  unfold StableHlo.held SB
  rw [SparseCore.bigSep_insert' (by decide), bigSep_singleton]
omit [FloatOps F] in
theorem held_SC (d : Dev nD) (W : Valuation τ sig (Elt F)) :
    (StableHlo.held (SparseCore.T d) SC W : sProp 𝕄) = iprop(((SparseCore.T d).loc main_v5 ↦{fullShare} W v5') ∗ (SparseCore.T d).loc main_v6 ↦{fullShare} W v6') := by
  unfold StableHlo.held SC
  rw [SparseCore.bigSep_insert' (by decide), bigSep_singleton]

theorem hC : (opC (F := F)).bufs ⊆ SA := show ({c'} : Finset (DevRef τ sig)) ⊆ SA by decide
theorem hB : (opB (F := F)).bufs ⊆ SA := show ({c', v0'} : Finset (DevRef τ sig)) ⊆ SA by decide
theorem hM : (opM (F := F)).bufs ⊆ SA := show ({lab', v0', v1'} : Finset (DevRef τ sig)) ⊆ SA by decide
theorem hR : (opR (F := F)).bufs ⊆ SA := show ({v1', v2'} : Finset (DevRef τ sig)) ⊆ SA by decide
theorem hL : (opL (F := F)).bufs ⊆ SB := show ({lab', v4'} : Finset (DevRef τ sig)) ⊆ SB by decide
theorem hO : (opO (F := F)).bufs ⊆ SC := show ({v5', v6'} : Finset (DevRef τ sig)) ⊆ SC by decide

omit [FloatOps F] in
/-- The arrays of the entry function, one by one. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (labLoc d ↦{fullShare} W main_arg1) ∗ (lutLoc d ↦{fullShare} W main_arg2) ∗ (cqLoc d ↦{fullShare} W main_arg3)
          ∗ ((SparseCore.T d).loc main_c ↦{fullShare} W main_c) ∗ ((SparseCore.T d).loc main_v0 ↦{fullShare} W main_v0)
          ∗ ((SparseCore.T d).loc main_v1 ↦{fullShare} W main_v1) ∗ (ixLoc d ↦{fullShare} W main_v2) ∗ (gLoc d ↦{fullShare} W main_v3)
          ∗ ((SparseCore.T d).loc main_v4 ↦{fullShare} W main_v4) ∗ ((SparseCore.T d).loc main_v5 ↦{fullShare} W main_v5)
          ∗ (SparseCore.T d).loc main_v6 ↦{fullShare} W main_v6) := by
  unfold unscopedBufs
  rw [show (Finset.univ.filter fun b : Ref sig .tc => ¬ b.isScoped)
      = {main_arg0, main_arg1, main_arg2, main_arg3, main_c, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays as the launch finds them. -/
def V0 (d : Dev nD) : Valuation τ sig (Elt F) := fun b => m (d, b)
/-- The arrays before the SparseCore call. -/
def V4 (d : Dev nD) : Valuation τ sig (Elt F) :=
  (opR (F := F)).result ((opM (F := F)).result ((opB (F := F)).result ((opC (F := F)).result (V0 m d))))
/-- The arrays after the TensorCore call, as far as the last reshape reads them. -/
def V5 (d : Dev nD) : Valuation τ sig (Elt F) := Function.update (V0 m d) v5' (entOf m d).loss

theorem V4_lab (d : Dev nD) : V4 m d lab' = m (labLoc d) := by
  unfold V4
  rw [(opR (F := F)).result_of_not_mem _ (show lab' ∉ ({v2'} : Finset (DevRef τ sig)) by decide),
    (opM (F := F)).result_of_not_mem _ (show lab' ∉ ({v1'} : Finset (DevRef τ sig)) by decide),
    (opB (F := F)).result_of_not_mem _ (show lab' ∉ ({v0'} : Finset (DevRef τ sig)) by decide),
    (opC (F := F)).result_of_not_mem _ (show lab' ∉ ({c'} : Finset (DevRef τ sig)) by decide)]
  rfl

theorem V4_ix (d : Dev nD) : V4 m d v2' = ixOf (F := F) (m (labLoc d)) := by
  unfold V4 ixOf
  rw [StableHlo.reshape_result, StableHlo.binary_result, StableHlo.unary_result, StableHlo.nullary_result,
    (opB (F := F)).result_of_not_mem _ (show lab' ∉ ({v0'} : Finset (DevRef τ sig)) by decide),
    (opC (F := F)).result_of_not_mem _ (show lab' ∉ ({c'} : Finset (DevRef τ sig)) by decide)]
  rfl

theorem held_SA_end (d : Dev nD) :
    (StableHlo.held (SparseCore.T d) SA ((opR (F := F)).result ((opM (F := F)).result ((opB (F := F)).result ((opC (F := F)).result (V0 m d))))) : sProp 𝕄)
      ⊢ iprop((labLoc d ↦{fullShare} m (labLoc d)) ∗ (ixLoc d ↦{fullShare} ixOf (F := F) (m (labLoc d)))) := by
  show StableHlo.held (SparseCore.T d) SA (V4 m d) ⊢ _
  rw [held_SA, V4_lab, V4_ix]
  iintro ⟨H, -, -, -, Hx⟩
  isplitl [H]; · iexact H
  iexact Hx

theorem held_SB_end (d : Dev nD) :
    (StableHlo.held (SparseCore.T d) SB ((opL (F := F)).result (V0 m d)) : sProp 𝕄)
      = iprop((labLoc d ↦{fullShare} m (labLoc d)) ∗ (SparseCore.T d).loc main_v4 ↦{fullShare} (entOf m d).lab) := by
  rw [held_SB, (opL (F := F)).result_of_not_mem _ (show lab' ∉ ({v4'} : Finset (DevRef τ sig)) by decide), StableHlo.reshape_result]
  rfl

theorem held_SC_end (d : Dev nD) :
    (StableHlo.held (SparseCore.T d) SC ((opO (F := F)).result (V5 m d)) : sProp 𝕄)
      ⊢ ((SparseCore.T d).loc main_v6 ↦{fullShare} outOf m d) := by
  rw [held_SC, StableHlo.reshape_result]
  unfold V5
  rw [Function.update_self]
  iintro ⟨-, H⟩
  iexact H

theorem st0_eq (d : Dev nD) : (bigSep Finset.univ fun c : Fin ((K (F := F)).nCore 0) => (P m).st 0 d c) ⊣⊢ whole m d (m (gLoc d)) := by
  show (bigSep (Finset.univ : Finset (Fin 2)) fun c => if c.val = 0 then whole m d (m (gLoc d)) else iprop(emp)) ⊣⊢ _
  rw [show (Finset.univ : Finset (Fin 2)) = {0, 1} by decide, SparseCore.bigSep_insert' (by decide), bigSep_singleton, if_pos (show (0 : Fin 2).val = 0 from rfl),
    if_neg (show ¬ (1 : Fin 2).val = 0 by decide)]
  exact sep_emp
theorem dn0_eq (d : Dev nD) : (bigSep Finset.univ fun c : Fin ((K (F := F)).nCore 0) => (P m).dn 0 d c) ⊣⊢ whole m d (gOut m d) := by
  show (bigSep (Finset.univ : Finset (Fin 2)) fun c => if c.val = 0 then whole m d (gOut m d) else iprop(emp)) ⊣⊢ _
  rw [show (Finset.univ : Finset (Fin 2)) = {0, 1} by decide, SparseCore.bigSep_insert' (by decide), bigSep_singleton, if_pos (show (0 : Fin 2).val = 0 from rfl),
    if_neg (show ¬ (1 : Fin 2).val = 0 by decide)]
  exact sep_emp

/-- What the entry function leaves the claims: the arguments and the result. -/
def FIN (d : Dev nD) : sProp 𝕄 :=
  iprop((xLoc d ↦{fullShare} m (xLoc d)) ∗ (labLoc d ↦{fullShare} m (labLoc d)) ∗ (lutLoc d ↦{fullShare} m (lutLoc d))
    ∗ (cqLoc d ↦{fullShare} m (cqLoc d)) ∗ ((SparseCore.T d).loc main_v6 ↦{fullShare} outOf m d))

/-- The TensorCore call under the table the pipeline extends, from its arrays as the calls before it leave them. -/
theorem tc_inner (d : Dev nD) [∀ e, Nonempty (Elt F e)] (Q : PUnit → sProp 𝕄) :
    iprop((iprop(boundary (SparseCore.T d : Thread nD τ) ∗ tcArrs (entOf m d) d (entOf m d).loss ∗ owed0 d) -∗ Q ⟨⟩)
        ∗ boundary (SparseCore.T d : Thread nD τ) ∗ (tcArrs (entOf m d) d (entOf m d).o ∗ owed0 d) ∗ levAts (K (F := F)).L (K (F := F)).lev ∗ G d)
      ⊢ wp frame (wpE (D (F := F)) 𝒱 (SparseCore.T d) none) Set.univ (.op (.customCall (Pipeline.entry 0) ()) .ret) Q := by
  refine BIBase.Entails.trans ?_ (RegionSeg.wp (pcfgs (F := F)) adm (pdats (entOf m)) none cellsInj (EP (F := F)) defs₀ 𝒱₀ (K (F := F)).L (K (F := F)).lev
    (region1 (entOf m)) d none (fun u h => nomatch h) .ret Q)
  unfold G
  iintro ⟨Hk, Hb, Hp, Hl, Hg, Ht⟩
  isplitl [Hk]
  · iintro HH
    rw [wp_ret]; imodintro
    iapply Hk
    iapply (Entails.of_eq (show iprop(boundary (SparseCore.T d : Thread nD τ) ∗ (region1 (entOf m)).post d)
      = iprop(boundary (SparseCore.T d : Thread nD τ) ∗ tcArrs (entOf m d) d (entOf m d).loss ∗ owed0 d) from rfl)); iexact HH
  isplitl [Hb]; · iexact Hb
  isplitl [Hp]
  · iapply (Entails.of_eq (show iprop(tcArrs (entOf m d) d (entOf m d).o ∗ owed0 d) = (region1 (entOf m)).pre d from rfl)); iexact Hp
  isplitl [Hl]; · iexact Hl
  isplitl [Hg]; · iexact Hg
  iexact Ht

/-- The TensorCore call in the entry function. -/
theorem tc_call (d : Dev nD) [∀ e, Nonempty (Elt F e)] (Q : PUnit → sProp 𝕄) :
    iprop((iprop(boundary (SparseCore.T d : Thread nD τ) ∗ tcArrs (entOf m d) d (entOf m d).loss ∗ owed0 d) -∗ Q ⟨⟩)
        ∗ boundary (SparseCore.T d : Thread nD τ) ∗ (tcArrs (entOf m d) d (entOf m d).o ∗ owed0 d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  refine (tc_inner m d Q).trans ?_
  exact (K (F := F)).wp_liftProg (D (F := F)) 𝒱 (SparseCore.T d) Set.univ none (.op (.customCall (Pipeline.entry 0) ()) .ret) Q

/-- What the TensorCore owes after the SparseCore call is nothing, and its waits are bounded by the call's block. -/
theorem tcSt_owed (d : Dev nD) :
    ((K (F := F)).tcSt EH d ((0 : Fin 1).val + 1) : sProp 𝕄) ⊢ iprop(owed0 d ∗ (owed0 d -∗ (K (F := F)).tcSt EH d 1)) := by
  show ((K (F := F)).tcSt EH d 1 : sProp 𝕄) ⊢ _
  unfold SparseCore.Cfg.tcSt owed0
  rw [(K (F := F)).Otc_end d (n := 1) le_rfl]
  iintro ⟨HO, H⟩
  isplitl [HO]; · iexact HO
  iintro HO
  isplitl [HO]; · iexact HO
  iexact H

set_option maxHeartbeats 1000000 in
/-- The entry function on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hlab, Hlut, Hcq, Hc, Hv0, Hv1, Hix, Hg, Hv4, Hv5, Hv6⟩, Hts, -⟩, HG⟩
  iapply (wp_hlo_within 𝒱 (SparseCore.T d) none Set.univ (op := opC) (S := SA) hC (V := V0 m d)) $$ [Hb Hlab Hc Hv0 Hv1 Hix]
  · isplitl [Hb]; · iexact Hb
    rw [held_SA]
    isplitl [Hlab]; · iexact Hlab
    isplitl [Hc]; · iexact Hc
    isplitl [Hv0]; · iexact Hv0
    isplitl [Hv1]; · iexact Hv1
    iexact Hix
  iintro ⟨Hb, Hheld⟩
  rw [wp_ret]; imodintro
  iapply (wp_hlo_within 𝒱 (SparseCore.T d) none Set.univ (op := opB) (S := SA) hB (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opM) (S := SA) hM (V := (opB (F := F)).result ((opC (F := F)).result (V0 m d)))) $$ [Hb Hheld]
  · isplitl [Hb] <;> iassumption
  iintro ⟨Hb, Hheld⟩
  rw [wp_ret]; imodintro
  iapply (wp_hlo_within 𝒱 (SparseCore.T d) none Set.univ (op := opR) (S := SA) hR
    (V := (opM (F := F)).result ((opB (F := F)).result ((opC (F := F)).result (V0 m d))))) $$ [Hb Hheld]
  · isplitl [Hb] <;> iassumption
  iintro ⟨Hb, Hheld⟩
  rw [wp_ret]; imodintro
  ihave Hh := (held_SA_end (F := F) m d) $$ Hheld
  icases Hh with ⟨Hlab, Hix⟩
  iapply ((K (F := F)).wp_run (D (F := F)) 𝒱 (EH := EH) (P := P m) κ d 0) $$ [Hst Hlut Hix Hg Hb Hlab Hv4 Hx Hcq Hv5 Hv6 Hts HG]
  isplitr; · iexact Hctx
  isplitl [Hst]; · iexact Hst
  isplitl [Hlut Hix Hg]
  · iapply (st0_eq m d).2
    unfold whole
    isplitl [Hlut]; · iexact Hlut
    isplitl [Hix]; · iexact Hix
    iexact Hg
  iintro ⟨Hst, Hdn⟩
  ihave Hdn' := (dn0_eq m d).1 $$ Hdn
  unfold whole
  icases Hdn' with ⟨Hlut, -, Hg⟩
  iapply (wp_hlo_within 𝒱 (SparseCore.T d) none Set.univ (op := opL) (S := SB) hL (V := V0 m d)) $$ [Hb Hlab Hv4]
  · isplitl [Hb]; · iexact Hb
    rw [held_SB]
    isplitl [Hlab]; · iexact Hlab
    iexact Hv4
  iintro ⟨Hb, Hheld⟩
  rw [wp_ret]; imodintro
  ihave Hh := (Entails.of_eq (held_SB_end (F := F) m d)) $$ Hheld
  icases Hh with ⟨Hlab, Hv4⟩
  ihave Hst' := (tcSt_owed (F := F) d) $$ Hst
  icases Hst' with ⟨HO, Hst⟩
  iapply (tc_call (F := F) m d)
  isplitr [Hb Hx Hv4 Hlut Hcq Hg Hv5 HO HG]
  swap
  · isplitl [Hb]; · iexact Hb
    isplitl [Hx Hv4 Hlut Hcq Hg Hv5 HO]
    · isplitr [HO]
      · unfold tcArrs
        isplitl [Hx]; · iexact Hx
        isplitl [Hv4]; · iexact Hv4
        isplitl [Hlut]; · iexact Hlut
        isplitl [Hcq]; · iexact Hcq
        isplitl [Hg]; · iexact Hg
        iexact Hv5
      iexact HO
    isplitr; · iapply ((K (F := F)).ctx_levAts κ); iexact Hctx
    iexact HG
  unfold tcArrs
  iintro ⟨Hb, ⟨Hx, -, Hlut, Hcq, -, Hv5⟩, HO⟩
  ihave Hst := Hst $$ HO
  iapply (wp_hlo_within 𝒱 (SparseCore.T d) none Set.univ (op := opO) (S := SC) hO (V := V5 m d)) $$ [Hb Hv5 Hv6]
  · isplitl [Hb]; · iexact Hb
    rw [held_SC]
    unfold V5
    rw [Function.update_self, Function.update_of_ne (show v6' ≠ v5' by decide)]
    isplitl [Hv5]; · iexact Hv5
    iexact Hv6
  iintro ⟨Hb, Hheld⟩
  rw [wp_ret]; imodintro; imodintro
  ihave Hv6 := (held_SC_end (F := F) m d) $$ Hheld
  isplitl [Hst]; · iexact Hst
  isplitr [Hb Hts]
  · unfold FIN
    isplitl [Hx]; · iexact Hx
    isplitl [Hlab]; · iexact Hlab
    isplitl [Hlut]; · iexact Hlut
    isplitl [Hcq]; · iexact Hcq
    iexact Hv6
  isplitl [Hb] <;> iassumption

/-! ## The end of a run -/

/-- What every run leaves in memory on device `d`. -/
def fq (d : Dev nD) (s' : Phys nD τ sig (Elt F)) : Prop :=
  s'.mem.mem (xLoc d) = m (xLoc d) ∧ s'.mem.mem (labLoc d) = m (labLoc d) ∧ s'.mem.mem (lutLoc d) = m (lutLoc d)
    ∧ s'.mem.mem (cqLoc d) = m (cqLoc d) ∧ s'.mem.mem ((SparseCore.T d).loc main_v6) = outOf m d

theorem hfin (d : Dev nD) (s' : Phys nD τ sig (Elt F)) : iprop(FIN m d ∗ SI s') ⊢ (⌜fq m d s'⌝ : sProp 𝕄) := by
  unfold FIN
  iintro ⟨⟨H0, H1, H2, H3, H4⟩, HSI⟩
  ihave H := (persistent_entails_right (SI_pointsTo_agree (st := s') (ℓ := xLoc d) (I := Finset.univ) (q := fullShare) (f := m (xLoc d)))) $$ [HSI H0]
  · isplitl [HSI] <;> iassumption
  icases H with ⟨%h0, HSI, -⟩
  ihave H := (persistent_entails_right (SI_pointsTo_agree (st := s') (ℓ := labLoc d) (I := Finset.univ) (q := fullShare) (f := m (labLoc d)))) $$ [HSI H1]
  · isplitl [HSI] <;> iassumption
  icases H with ⟨%h1, HSI, -⟩
  ihave H := (persistent_entails_right (SI_pointsTo_agree (st := s') (ℓ := lutLoc d) (I := Finset.univ) (q := fullShare) (f := m (lutLoc d)))) $$ [HSI H2]
  · isplitl [HSI] <;> iassumption
  icases H with ⟨%h2, HSI, -⟩
  ihave H := (persistent_entails_right (SI_pointsTo_agree (st := s') (ℓ := cqLoc d) (I := Finset.univ) (q := fullShare) (f := m (cqLoc d)))) $$ [HSI H3]
  · isplitl [HSI] <;> iassumption
  icases H with ⟨%h3, HSI, -⟩
  ihave H := (SI_pointsTo_agree (st := s') (ℓ := (SparseCore.T d).loc main_v6) (I := Finset.univ) (q := fullShare) (f := outOf m d)) $$ [HSI H4]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-- The end of every run: the arguments unchanged, the result at its value, every counter at zero. -/
def QC : PUnit × MemSt nD τ sig (Elt F) → Prop := fun r =>
  (∀ c : Dev nD, r.2.mem (xLoc c) = m (xLoc c) ∧ r.2.mem (labLoc c) = m (labLoc c) ∧ r.2.mem (lutLoc c) = m (lutLoc c)
    ∧ r.2.mem (cqLoc c) = m (cqLoc c) ∧ r.2.mem ((SparseCore.T c).loc main_v6) = outOf m c) ∧ r.2.sem = fun _ => 0

/-- Every run of the program, from any memory whose labels name rows: it ends, and ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Oim

end
-- ==== Proof.Pre.lean ====
/-
  What the labels' precondition says: they lie in 0 … 100000, so every row number the SparseCore call gathers by names a
  row of the table.
-/
module

public import proofs.«01_k».proof.Defs
public import proofs.«01_k».proof.Proof.Gen.Pre_labels_in_range
public import proofs.«01_k».proof.Proof.Gen.Kernel
public import proofs.«01_k».proof.Proof.Gen.ReferenceIdeal
public import proofs.«01_k».proof.Proof.Launch
public import Idealize.ShloMosaic.Lib.ReduceAll

@[expose] public section

set_option maxRecDepth 16384

noncomputable section

namespace Cert.Oim

open Cert.KernelIdeal Cert.KernelIdeal.Gen
open Idealize.ShloMosaic Idealize.SL.Sem

variable {F : FTy → Type} [FloatOps F]

/-- The smaller of a label in range and the last row's number names a row. -/
theorem min_row (v : BitVec 32) (h : v.toNat ≤ 100000) : (IntOp.minsi v 99999#32).toNat < 100000 := by
  unfold IntOp.minsi
  split
  · rename_i hs
    simp only [BitVec.slt_eq_decide, BitVec.sle_eq_decide, decide_eq_true_eq, BitVec.toInt_eq_toNat_cond, BitVec.toNat_ofNat, Nat.reducePow, Nat.reduceMod] at hs
    omega
  · decide

/-- A word that is at least 0 and at most 100000, read signed, is so read unsigned. -/
theorem range_of_cmp (v : BitVec 32) (h0 : IntOp.cmpi .sge v 0#32 = 1#1) (h1 : IntOp.cmpi .sle v 100000#32 = 1#1) : v.toNat ≤ 100000 := by
  have a := IntOp.cmpi_sge.1 h0
  have b := IntOp.cmpi_sle.1 h1
  simp only [BitVec.toInt_eq_toNat_cond, BitVec.toNat_ofNat, Nat.reducePow, Nat.reduceMod] at a b
  omega

/-- Every label names a row of the table or is the ignored one. -/
def LabOK (lab : S1024.Idx → Elt F .i32) : Prop := ∀ i, (lab i : BitVec 32).toNat ≤ 100000

/-- Then every row number names a row of the table. -/
theorem preOK_of_lab (m : (ℓ : Loc nD τ sig) → Buf (Elt F) ℓ) (h : ∀ d, LabOK (F := F) (m (labLoc d))) : PreOK m := fun d j =>
  min_row _ (h d _)

/-- The labels' precondition. -/
theorem lab_of_pre (x : FVec F S1024x128 .f32) (lab : IVec S1024 32) (lut : FVec F S100000x128 .f32) (cq : FVec F S5000x128 .f32)
    (h : Cert.Pre_labels_in_range.fn x lab lut cq = fun _ => 1#1) : LabOK (F := F) lab := fun i => by
  have e := congrFun h ValueIdx.ix0
  have e' := Host.reduce_andi_all _ _ _ _ _ e i
  obtain ⟨h0, h1⟩ := IntOp.andi_eq_one.1 e'
  exact range_of_cmp _ h0 h1

end Cert.Oim

end
-- ==== Proof.Frames.lean ====
/-
  The frames: every run of each program ends, its arguments unchanged and every counter at zero.
-/
module

public import proofs.«01_k».proof.Proof.Pre
public import proofs.«01_k».proof.Proof.Gen.ReferenceIdeal.Run

@[expose] public section

set_option maxRecDepth 16384

noncomputable section

namespace Cert.Oim

open Idealize.ShloMosaic Idealize.SL.Sem

/-- The frame of the idealized program's text, read at bits. -/
def BitsFrame : Prop :=
  ∀ (m : (ℓ : Loc Cert.KernelIdeal.nD Cert.KernelIdeal.τ Cert.KernelIdeal.sig) → Buf (Elt Bits) ℓ)
    (g : Dev Cert.KernelIdeal.nD → PrngReg),
    (∀ c : Dev Cert.KernelIdeal.nD,
      Cert.Pre_labels_in_range.fn (F := Bits)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) = (fun _ => 1#1)) →
    θ_run (Cert.KernelIdeal.defs (F := Bits)) (Cert.KernelIdeal.threads (F := Bits)) ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3))
      ∧ r.2.sem = fun _ => 0)

/-- That frame holds. -/
theorem bitsFrame : BitsFrame := fun m ρ h =>
  (θ_run Cert.KernelIdeal.defs _ _).mono (fun _ h => ⟨fun c => ⟨(h.1 c).1, (h.1 c).2.1, (h.1 c).2.2.1, (h.1 c).2.2.2.1⟩, h.2⟩)
    (run_main (F := Bits) m ρ (preOK_of_lab m fun d => lab_of_pre _ _ _ _ (h d)))

/-- The kernel's frame is the same proposition: the two programs are one text. -/
theorem kernelFrame_eq : Cert.quiescent_Kernel = BitsFrame := by sl_kernel_rfl

/-- The kernel read at bits. -/
theorem frame_kernel : Cert.quiescent_Kernel := kernelFrame_eq.symm ▸ bitsFrame

/-- The kernel read at the extended reals. -/
theorem frame_ideal : Cert.quiescent_KernelIdeal := fun m ρ h =>
  (θ_run Cert.KernelIdeal.defs _ _).mono (fun _ h => ⟨fun c => ⟨(h.1 c).1, (h.1 c).2.1, (h.1 c).2.2.1, (h.1 c).2.2.2.1⟩, h.2⟩)
    (run_main (F := Ideal) m ρ (preOK_of_lab m fun d => lab_of_pre _ _ _ _ (h d)))

/-- The reference. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Oim

end
-- ==== Proof.PreFin.lean ====
/-
  What the value claim's precondition says: the labels in range, and no entry of the labelled table infinite; and the frames
  under it.
-/
module

public import proofs.«01_k».proof.Proof.Frames
public import proofs.«01_k».proof.Proof.Gen.Pre_labels_in_range_lut_finite

@[expose] public section

set_option maxRecDepth 16384

noncomputable section

namespace Cert.Oim

open Cert.KernelIdeal Cert.KernelIdeal.Gen
open Idealize.ShloMosaic Idealize.SL.Sem

variable {F : FTy → Type} [FloatOps F]

/-- The value claim's precondition, of the labels, -/
theorem lab_of_pre' (x : FVec F S1024x128 .f32) (lab : IVec S1024 32) (lut : FVec F S100000x128 .f32) (cq : FVec F S5000x128 .f32)
    (h : Cert.Pre_labels_in_range_lut_finite.fn x lab lut cq = fun _ => 1#1) : LabOK (F := F) lab := fun i => by
  have e := congrFun h ValueIdx.ix0
  have e' := Host.reduce_andi_all _ _ _ _ _ (IntOp.andi_eq_one.1 e).1 i
  obtain ⟨h0, h1⟩ := IntOp.andi_eq_one.1 e'
  exact range_of_cmp _ h0 h1

/-- and of the table: no entry's absolute value reaches infinity. -/
theorem lut_of_pre' (x : FVec F S1024x128 .f32) (lab : IVec S1024 32) (lut : FVec F S100000x128 .f32) (cq : FVec F S5000x128 .f32)
    (h : Cert.Pre_labels_in_range_lut_finite.fn x lab lut cq = fun _ => 1#1) (i : S100000x128.Idx) :
    FloatOps.cmpf .olt (FloatOps.hostAbsf (lut i)) (FloatOps.ofBits .f32 0x7F800000#32) = 1#1 := by
  have e := congrFun h ValueIdx.ix0
  exact Host.reduce_andi_all _ _ _ _ _ (IntOp.andi_eq_one.1 e).2 i

/-- The kernel's frame under the value claim's precondition. -/
theorem frame_ideal' : Cert.quiescent_KernelIdeal_pre_labels_in_range_lut_finite := fun m ρ h =>
  (θ_run Cert.KernelIdeal.defs _ _).mono (fun _ h => ⟨fun c => ⟨(h.1 c).1, (h.1 c).2.1, (h.1 c).2.2.1, (h.1 c).2.2.2.1⟩, h.2⟩)
    (run_main (F := Ideal) m ρ (preOK_of_lab m fun d => lab_of_pre' _ _ _ _ (h d)))

/-- The reference's frame under it. -/
theorem frame_ref' : Cert.quiescent_ReferenceIdeal_pre_labels_in_range_lut_finite := fun m ρ _ =>
  (θ_run Cert.ReferenceIdeal.defs _ _).mono
    (fun r h => ⟨fun c => (h c).2, sem_eq_zero_of_no_sems (by decide) r.2⟩)
    (Cert.ReferenceIdeal.Value.run m ρ)

end Cert.Oim

end
-- ==== Proof.RefStage.lean ====
/-
  The reference's result as a chain of named arrays, in the order of its operations.
-/
module

public import proofs.«01_k».proof.Proof.Gen.ReferenceIdeal.Run

@[expose] public section

set_option maxRecDepth 16384

noncomputable section

namespace Cert.Oim.Ref

open Cert.ReferenceIdeal Cert.ReferenceIdeal.Gen
open Idealize.ShloMosaic Idealize.SL.Sem

variable {F : FTy → Type} [FloatOps F]

/-- The normalized inputs. -/
def xr (x : FVec F S1024x128 .f32) : FVec F S1024x128 .f32 :=
  Host.divf x (broadcastInDim S1024x128 ![0, 1] bcast_S1024x1_S1024x128_0_1 (maximumf (Host.sqrt (broadcastInDim S1024x1 ![0] bcast_S1024_S1024x1_0 (Host.reduceAdd (mulf x x) (constant S_ .f32 0x00000000#32) reducesTo_S1024x128_S1024_d1 h_S_))) (broadcastInDim S1024x1 ![] bcast_S_S1024x1 (constant S_ .f32 0x2B8CBCCC#32))))

/-- Which rows of the table are zero throughout. -/
def badL (lut : FVec F S100000x128 .f32) : IVec S100000 1 :=
  Host.reduce IntOp.andi (cmpf .oeq lut (broadcastInDim S100000x128 ![] bcast_S_S100000x128 (constant S_ .f32 0x00000000#32))) (constantI S_ 1 1#1) reducesTo_S100000x128_S100000_d1 h_S_

/-- Which rows of the queue are zero throughout. -/
def badC (cq : FVec F S5000x128 .f32) : IVec S5000 1 :=
  Host.reduce IntOp.andi (cmpf .oeq cq (broadcastInDim S5000x128 ![] bcast_S_S5000x128 (constant S_ .f32 0x00000000#32))) (constantI S_ 1 1#1) reducesTo_S5000x128_S5000_d1 h_S_

/-- Whether a sample's own row of the table is zero throughout (never, for the ignored label). -/
def badPos (lab : IVec S1024 32) (lut : FVec F S100000x128 .f32) : IVec S1024 1 :=
  Host.gather gather_S100001_S1024x1_S1024_n_0_n_n_0_1_1 (Value.fn_main_v9 (F := F) (badL lut) (broadcastInDim S1 ![] bcast_S_S1 (constantI S_ 1 0#1))) (broadcastInDim S1024x1 ![0] bcast_S1024_S1024x1_0 (select (cmpi .slt lab (broadcastInDim S1024 ![] bcast_S_S1024 (constantI S_ 32 0#32))) (addi lab (broadcastInDim S1024 ![] bcast_S_S1024 (constantI S_ 32 100001#32))) lab))

/-- The row numbers, one to a sample, as the reference wraps them. -/
def rowIx : IVec S1024 32 :=
  select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)

/-- The labels held below the table's height, as the reference wraps them. -/
def colIx (lab : IVec S1024 32) : IVec S1024 32 :=
  select (cmpi .slt (minsi lab (broadcastInDim S1024 ![] bcast_S_S1024 (constantI S_ 32 99999#32))) (broadcastInDim S1024 ![] bcast_S_S1024 (constantI S_ 32 0#32))) (addi (minsi lab (broadcastInDim S1024 ![] bcast_S_S1024 (constantI S_ 32 99999#32))) (broadcastInDim S1024 ![] bcast_S_S1024 (constantI S_ 32 100000#32))) (minsi lab (broadcastInDim S1024 ![] bcast_S_S1024 (constantI S_ 32 99999#32)))

/-- The pairs (row, column) at which the scores are read and set. -/
def pairIx (lab : IVec S1024 32) : IVec S1024x2 32 :=
  Value.fn_main_v39 (F := F) (broadcastInDim S1024x1 ![0] bcast_S1024_S1024x1_0 rowIx) (broadcastInDim S1024x1 ![0] bcast_S1024_S1024x1_0 (colIx lab))

/-- The table's scores, −1 at a zero row. -/
def scoreL (x : FVec F S1024x128 .f32) (lut : FVec F S100000x128 .f32) : FVec F S1024x100000 .f32 :=
  select (broadcastInDim S1024x100000 ![0, 1] bcast_S1x100000_S1024x100000_0_1 (broadcastInDim S1x100000 ![1] bcast_S100000_S1x100000_1 (badL lut))) (broadcastInDim S1024x100000 ![] bcast_S_S1024x100000 (id (constant S_ .f32 0xBF800000#32))) (Host.dotGeneral dot_S1024x128_S128x100000_S1024x100000_1_0_0_1_n_n none (xr x) (transpose S128x100000 [1, 0] lut transposes_S100000x128_S128x100000_1_0))

/-- The queue's scores, −1 at a zero row. -/
def scoreC (x : FVec F S1024x128 .f32) (cq : FVec F S5000x128 .f32) : FVec F S1024x5000 .f32 :=
  select (broadcastInDim S1024x5000 ![0, 1] bcast_S1x5000_S1024x5000_0_1 (broadcastInDim S1x5000 ![1] bcast_S5000_S1x5000_1 (badC cq))) (broadcastInDim S1024x5000 ![] bcast_S_S1024x5000 (id (constant S_ .f32 0xBF800000#32))) (Host.dotGeneral dot_S1024x128_S128x5000_S1024x5000_1_0_0_1_n_n none (xr x) (transpose S128x5000 [1, 0] cq transposes_S5000x128_S128x5000_1_0))

/-- What is set at a sample's own column: 1 at a zero row, else what stands there. -/
def ownScore (x : FVec F S1024x128 .f32) (lab : IVec S1024 32) (lut : FVec F S100000x128 .f32) : FVec F S1024 .f32 :=
  select (badPos lab lut) (broadcastInDim S1024 ![] bcast_S_S1024 (id (constant S_ .f32 0x3F800000#32))) (Host.gather gather_S1024x100000_S1024x2_S1024_n_01_n_n_01_1_11 (scoreL x lut) (pairIx (F := F) lab))

/-- The table's scores with each sample's own column set. -/
def setL (x : FVec F S1024x128 .f32) (lab : IVec S1024 32) (lut : FVec F S100000x128 .f32) : FVec F S1024x100000 .f32 :=
  Host.scatter scatter_S1024x100000_S1024x2_S1024_n_01_01_1 (fun _ b => b) (scoreL x lut) (pairIx (F := F) lab) (ownScore x lab lut)

/-- All scores, times 30. -/
def proj (x : FVec F S1024x128 .f32) (lab : IVec S1024 32) (lut : FVec F S100000x128 .f32) (cq : FVec F S5000x128 .f32) :
    FVec F S1024x105000 .f32 :=
  mulf (Value.fn_main_v60 (setL x lab lut) (scoreC x cq)) (broadcastInDim S1024x105000 ![] bcast_S_S1024x105000 (constant S_ .f32 0x41F00000#32))

/-- Each row's maximum. -/
def rowMax (z : FVec F S1024x105000 .f32) : FVec F S1024 .f32 :=
  maximumf (broadcastInDim S1024 ![] bcast_S_S1024 (constant S_ .f32 0xFF800000#32)) (Host.reduce FloatOps.maximumf z (constant S_ .f32 0xFF800000#32) reducesTo_S1024x105000_S1024_d1 h_S_)

/-- The scores less a number to each row. -/
def shifted (z : FVec F S1024x105000 .f32) (μ : FVec F S1024 .f32) : FVec F S1024x105000 .f32 :=
  subf z (broadcastInDim S1024x105000 ![0, 1] bcast_S1024x1_S1024x105000_0_1 (broadcastInDim S1024x1 ![0] bcast_S1024_S1024x1_0 μ))

/-- Each row's sum of exponentials. -/
def expSum (y : FVec F S1024x105000 .f32) : FVec F S1024 .f32 :=
  Host.reduceAdd (Host.exp y) (constant S_ .f32 0x00000000#32) reducesTo_S1024x105000_S1024_d1 h_S_

/-- An array less the logarithm of a number to each row. -/
def lessLog (y : FVec F S1024x105000 .f32) (s : FVec F S1024 .f32) : FVec F S1024x105000 .f32 :=
  subf y (broadcastInDim S1024x105000 ![0, 1] bcast_S1024x1_S1024x105000_0_1 (Host.log (broadcastInDim S1024x1 ![0] bcast_S1024_S1024x1_0 s)))

/-- The logarithm of the softmax. -/
def logp (z : FVec F S1024x105000 .f32) : FVec F S1024x105000 .f32 :=
  lessLog (shifted z (rowMax z)) (expSum (shifted z (rowMax z)))

/-- Which labels are not the ignored one. -/
def validIx (lab : IVec S1024 32) : IVec S1024 1 :=
  cmpi .ne lab (broadcastInDim S1024 ![] bcast_S_S1024 (constantI S_ 32 100000#32))

/-- The columns read, 0 for the ignored label. -/
def tgtIx (lab : IVec S1024 32) : IVec S1024x1 32 :=
  broadcastInDim S1024x1 ![0] bcast_S1024_S1024x1_0 (select (validIx lab) lab (broadcastInDim S1024 ![] bcast_S_S1024 (id (constantI S_ 32 0#32))))

/-- The columns read, as the reference wraps them. -/
def takeIx (t : IVec S1024x1 32) : IVec S1024x1x1 32 :=
  shapeCast S1024x1x1 (select (cmpi .slt t (broadcastInDim S1024x1 ![] bcast_S_S1024x1 (constantI S_ 32 0#32))) (addi t (broadcastInDim S1024x1 ![] bcast_S_S1024x1 (constantI S_ 32 105000#32))) t) shapeCasts_S1024x1_S1024x1x1

/-- Whether the columns read are in range. -/
def takeOK (i : IVec S1024x1x1 32) : IVec S1024x1 1 :=
  Host.reduce IntOp.andi (andi (cmpi .sge i (broadcastInDim S1024x1x1 ![] bcast_S_S1024x1x1 (constantI S_ 32 0#32))) (cmpi .sle i (broadcastInDim S1024x1x1 ![0, 1, 2] bcast_S1x1x1_S1024x1x1_0_1_2 (broadcastInDim S1x1x1 ![2] bcast_S1_S1x1x1_2 (constantI S1 32 104999#32))))) (constantI S_ 1 1#1) reducesTo_S1024x1x1_S1024x1_d2 h_S_

/-- The entries read. -/
def taken (z : FVec F S1024x105000 .f32) (t : IVec S1024x1 32) : FVec F S1024x1 .f32 :=
  select (takeOK (takeIx t)) (Host.gather gather_S1024x105000_S1024x1x1_S1024x1_n_1_0_0_1_2_11 z (takeIx t)) (broadcastInDim S1024x1 ![] bcast_S_S1024x1 (constant S_ .f32 0x7FC00000#32))

/-- Each sample's loss. -/
def rowLoss (x : FVec F S1024x128 .f32) (lab : IVec S1024 32) (lut : FVec F S100000x128 .f32) (cq : FVec F S5000x128 .f32) : FVec F S1024 .f32 :=
  select (validIx lab) (Host.negf (shapeCast S1024 (taken (logp (proj x lab lut cq)) (tgtIx lab)) shapeCasts_S1024x1_S1024)) (broadcastInDim S1024 ![] bcast_S_S1024 (id (constant S_ .f32 0x00000000#32)))

/-- The reference's result. -/
def out (x : FVec F S1024x128 .f32) (lab : IVec S1024 32) (lut : FVec F S100000x128 .f32) (cq : FVec F S5000x128 .f32) : FVec F S_ .f32 :=
  Host.reduceAdd (Host.divf (rowLoss x lab lut cq) (broadcastInDim S1024 ![] bcast_S_S1024 (constant S_ .f32 0x44800000#32))) (constant S_ .f32 0x00000000#32) reducesTo_S1024_S_d0 h_S_

set_option maxHeartbeats 2000000 in
/-- The reference's run leaves that result. -/
theorem res_eq (m : (ℓ : Loc nD τ sig) → Buf (Elt F) ℓ) (c : Dev nD) :
    Value.res_main_v74 m c = out (F := F) (m ((c.tc : Thread nD τ).loc main_arg0)) (m ((c.tc : Thread nD τ).loc main_arg1))
      (m ((c.tc : Thread nD τ).loc main_arg2)) (m ((c.tc : Thread nD τ).loc main_arg3)) := by
  unfold Value.res_main_v74
  rfl

end Cert.Oim.Ref

end
-- ==== Proof.Math.lean ====
/-
  The extended-real mathematics of the loss: the logarithm of a sum of exponentials with and without its maximum taken
  out, and the sum of exponentials with the zero rows' terms put right at the end.
-/
module

public import Idealize.ShloMosaic.Lib.IdealHost
public import Idealize.ShloMosaic.PureOps.Ideal

@[expose] public section

set_option maxRecDepth 16384

noncomputable section

namespace Cert.Oim

open Idealize.ShloMosaic

/-! ## The constants -/

/-- The scale's word is 30. -/
theorem c30 : Ideal.ofBits .f32 1106247680#32 = ((30 : ℝ) : EReal) := by
  simp [Ideal.ofBits, Ideal.ieee, -EReal.coe_mul]; norm_num

/-- The negated scale's word is −30. -/
theorem cm30 : Ideal.ofBits .f32 3253731328#32 = ((-30 : ℝ) : EReal) := by
  simp [Ideal.ofBits, Ideal.ieee, -EReal.coe_mul]; norm_num

/-- The word of −1. -/
theorem cm1 : Ideal.ofBits .f32 3212836864#32 = ((-1 : ℝ) : EReal) := by
  simp [Ideal.ofBits, Ideal.ieee, -EReal.coe_mul]; norm_num

/-- The word of −∞. -/
theorem cbot : Ideal.ofBits .f32 4286578688#32 = ⊥ := by
  simp [Ideal.ofBits, Ideal.ieee]

/-- The word of 1024. -/
theorem c1024 : Ideal.ofBits .f32 1149239296#32 = ((1024 : ℝ) : EReal) := by
  simp [Ideal.ofBits, Ideal.ieee, -EReal.coe_mul]; norm_num

/-- The word of 1/1024. -/
theorem cinv1024 : Ideal.ofBits .f32 981467136#32 = ((1 / 1024 : ℝ) : EReal) := by
  simp [Ideal.ofBits, Ideal.ieee, -EReal.coe_mul]; norm_num

/-- The norm's floor is a positive real. -/
theorem ceps : ∃ e : ℝ, 0 < e ∧ Ideal.ofBits .f32 730643660#32 = (e : EReal) := by
  refine ⟨_, ?_, by simp [Ideal.ofBits, Ideal.ieee, -EReal.coe_mul]; rfl⟩
  norm_num

/-! ## Reals inside the extended reals -/

/-- An extended real that is a real. -/
def IsR (a : EReal) : Prop := ∃ r : ℝ, a = (r : EReal)

theorem IsR.mul {a b : EReal} : IsR a → IsR b → IsR (a * b)
  | ⟨r, hr⟩, ⟨s, hs⟩ => ⟨r * s, by rw [hr, hs, EReal.coe_mul]⟩

theorem IsR.add {a b : EReal} : IsR a → IsR b → IsR (a + b)
  | ⟨r, hr⟩, ⟨s, hs⟩ => ⟨r + s, by rw [hr, hs, EReal.coe_add]⟩

/-- A finite sum of reals is a real. -/
theorem IsR.sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isR_of_ne {a : EReal} (h1 : a ≠ ⊤) (h2 : a ≠ ⊥) : IsR a :=
  ⟨a.toReal, (EReal.coe_toReal h1 h2).symm⟩

/-- A positive real factor passes into a sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum of coerced reals is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_nonneg (a : EReal) : 0 ≤ Ideal.exp a := by
  induction a with
  | bot => simp
  | top => simp
  | coe r => rw [Ideal.exp_coe]; exact_mod_cast (Real.exp_pos r).le

/-! ## The logarithm of a sum of exponentials -/

/-- Taking the maximum out of the exponents changes nothing: not where it is real, and where it is `⊤` both sides are `⊤`. -/
theorem logSumExp {ι : Type} [Fintype ι] (z : ι → EReal) (t : ι) (ht : IsR (z t)) :
    -(z t - max ⊥ (Finset.fold max ⊥ (fun k => z k) Finset.univ)
        - Ideal.log (0 + ∑ k, Ideal.exp (z k - max ⊥ (Finset.fold max ⊥ (fun k => z k) Finset.univ))))
      = Ideal.log (∑ k, Ideal.exp (z k)) - z t := by
  classical
  obtain ⟨r, hr⟩ := ht
  have hM : max ⊥ (Finset.fold max ⊥ (fun k => z k) Finset.univ) = Finset.univ.sup z := by
    rw [max_eq_right bot_le]; rfl
  rw [hM, zero_add]
  have hle : ∀ k, z k ≤ Finset.univ.sup z := fun k => Finset.le_sup (Finset.mem_univ k)
  obtain ⟨k0, -, hk0⟩ := Finset.exists_mem_eq_sup Finset.univ ⟨t, Finset.mem_univ t⟩ z
  generalize Finset.univ.sup z = M at hle hk0 ⊢
  induction M with
  | bot => exact absurd (hle t) (by rw [hr]; simp)
  | top =>
    have h1 : ∀ k, Ideal.exp (z k - ⊤) = 0 := fun k => by rw [EReal.sub_top, Ideal.exp_bot]
    have h2 : ∑ k, Ideal.exp (z k) = ⊤ := by
      rw [← Finset.add_sum_erase _ _ (Finset.mem_univ k0), ← hk0, Ideal.exp_top]
      refine EReal.top_add_of_ne_bot (ne_of_gt (lt_of_lt_of_le EReal.bot_lt_zero ?_))
      exact Finset.sum_nonneg fun k _ => exp_nonneg _
    have h3 : Ideal.log (0 : EReal) = ⊥ := by
      rw [← EReal.coe_zero, Ideal.log_coe, if_pos le_rfl]
    simp only [h1, h2, Finset.sum_const_zero, h3, Ideal.log_top]
    rw [hr, EReal.sub_top, EReal.bot_sub, EReal.neg_bot, EReal.top_sub_coe]
  | coe μ =>
    have key : ∀ k, ∃ e : ℝ, 0 ≤ e ∧ Ideal.exp (z k) = (e : EReal) ∧ Ideal.exp (z k - (μ : EReal)) = ((e * Real.exp (-μ) : ℝ) : EReal) := by
      intro k
      have := hle k
      generalize z k = a at this
      induction a with
      | bot => exact ⟨0, le_rfl, by simp, by simp⟩
      | top => exact absurd this (by simp)
      | coe s =>
        refine ⟨Real.exp s, (Real.exp_pos s).le, by simp, ?_⟩
        rw [← EReal.coe_sub, Ideal.exp_coe, ← Real.exp_add, sub_eq_add_neg]
    choose e he0 he1 he2 using key
    simp only [he1, he2, coe_sum, hr]
    have het : e t = Real.exp r := by
      have := he1 t
      rw [hr, Ideal.exp_coe] at this
      exact_mod_cast this.symm
    have hpos : 0 < ∑ k, e k :=
      lt_of_lt_of_le (by rw [het]; exact Real.exp_pos r) (Finset.single_le_sum (f := e) (fun k _ => he0 k) (Finset.mem_univ t))
    rw [← Finset.sum_mul, Ideal.log_coe, Ideal.log_coe, if_neg (not_le.2 hpos), if_neg (not_le.2 (mul_pos hpos (Real.exp_pos _))),
      Real.log_mul hpos.ne' (Real.exp_pos _).ne', Real.log_exp, ← EReal.coe_sub, ← EReal.coe_sub, ← EReal.coe_sub, ← EReal.coe_neg]
    congr 1
    ring

/-! ## The zero rows -/

/-- A row that is zero throughout. -/
def Bad {d : ℕ} (w : Fin d → EReal) : Prop := ∀ k, w k = 0

/-- A row's absolute values sum to zero exactly when the row is zero throughout. -/
theorem sum_abs_eq_zero {d : ℕ} (w : Fin d → EReal) : (∑ k, FloatOps.absf (F := Ideal) (φ := .f32) (w k) = 0) ↔ Bad w := by
  have h0 : ∀ a : EReal, 0 ≤ max a (-a) := fun a => by
    rcases le_total 0 a with h | h
    · exact le_max_of_le_left h
    · exact le_max_of_le_right (by rw [EReal.neg_nonneg]; exact h)
  have hz : ∀ a : EReal, max a (-a) = 0 ↔ a = 0 := fun a => by
    constructor
    · intro h
      have h1 : a ≤ 0 := h ▸ le_max_left a (-a)
      have h2 : -a ≤ 0 := h ▸ le_max_right a (-a)
      exact le_antisymm h1 (EReal.neg_le_neg_iff.1 (by rwa [neg_zero]))
    · rintro rfl; simp
  show (∑ k, max (w k) (-(w k)) = 0) ↔ _
  rw [Finset.sum_eq_zero_iff_of_nonneg fun k _ => h0 (w k)]
  simp only [hz, Finset.mem_univ, true_implies]
  rfl

/-- One row's exponential of the reference's score, as the kernel's term and two corrections. -/
theorem exp_score {a : EReal} {B T : Prop} [Decidable B] [Decidable T] (ha : B → a = 0) :
    Ideal.exp ((if B then (if T then 1 else ((-1 : ℝ) : EReal)) else a) * ((30 : ℝ) : EReal))
      = Ideal.exp (a * ((30 : ℝ) : EReal))
        + (((if B then Real.exp (-30) - 1 else 0) + (if T ∧ B then Real.exp 30 - Real.exp (-30) else 0) : ℝ) : EReal) := by
  by_cases hB : B
  · rw [if_pos hB, if_pos hB, ha hB, zero_mul]
    have e0 : Ideal.exp 0 = ((1 : ℝ) : EReal) := by rw [← EReal.coe_zero, Ideal.exp_coe, Real.exp_zero]
    by_cases hT : T
    · rw [if_pos hT, if_pos ⟨hT, hB⟩, one_mul, Ideal.exp_coe, e0, ← EReal.coe_add]
      congr 1; ring
    · rw [if_neg hT, if_neg fun h => hT h.1, ← EReal.coe_mul, Ideal.exp_coe, e0, ← EReal.coe_add]
      congr 1; norm_num
  · rw [if_neg hB, if_neg hB, if_neg fun h => hB h.2, add_zero, EReal.coe_zero, add_zero]

/-- A real constant summed over the rows that have a property. -/
theorem sum_ite_const {n : ℕ} (P : Fin n → Prop) [DecidablePred P] (c : ℝ) :
    ∑ j, (if P j then c else 0) = ((Finset.univ.filter P).card : ℝ) * c := by
  rw [← Finset.sum_filter, Finset.sum_const, nsmul_eq_mul]

/-- The reference's exponentials summed are the kernel's sum with its two corrections. -/
theorem sum_exp_scores {n m : ℕ} (a : Fin n → EReal) (b : Fin m → EReal) (B : Fin n → Prop) (D : Fin m → Prop) [DecidablePred B] [DecidablePred D] (t : Fin n)
    (ha : ∀ j, B j → a j = 0) (hb : ∀ j, D j → b j = 0) :
    (∑ j, Ideal.exp ((if B j then (if j = t then 1 else ((-1 : ℝ) : EReal)) else a j) * ((30 : ℝ) : EReal)))
        + ∑ j, Ideal.exp ((if D j then ((-1 : ℝ) : EReal) else b j) * ((30 : ℝ) : EReal))
      = ((∑ j, Ideal.exp (a j * ((30 : ℝ) : EReal))) + ∑ j, Ideal.exp (b j * ((30 : ℝ) : EReal)))
        + ((((Finset.univ.filter B).card + (Finset.univ.filter D).card : ℕ) : ℝ) : EReal) * ((Real.exp (-30) - 1 : ℝ) : EReal)
        + (if B t then ((Real.exp 30 - Real.exp (-30) : ℝ) : EReal) else 0) := by
  have h1 : ∀ j, Ideal.exp ((if D j then ((-1 : ℝ) : EReal) else b j) * ((30 : ℝ) : EReal))
      = Ideal.exp (b j * ((30 : ℝ) : EReal)) + (((if D j then Real.exp (-30) - 1 else 0) : ℝ) : EReal) := fun j => by
    have := exp_score (B := D j) (T := False) (hb j)
    simpa using this
  have h0 : ∀ j, Ideal.exp ((if B j then (if j = t then 1 else ((-1 : ℝ) : EReal)) else a j) * ((30 : ℝ) : EReal))
      = Ideal.exp (a j * ((30 : ℝ) : EReal))
        + (((if B j then Real.exp (-30) - 1 else 0) + (if j = t ∧ B j then Real.exp 30 - Real.exp (-30) else 0) : ℝ) : EReal) :=
    fun j => exp_score (ha j)
  simp only [h0, h1]
  rw [Finset.sum_add_distrib, Finset.sum_add_distrib, coe_sum, coe_sum, Finset.sum_add_distrib, sum_ite_const B, sum_ite_const D]
  have h2 : ∑ j, (if j = t ∧ B j then Real.exp 30 - Real.exp (-30) else 0) = if B t then Real.exp 30 - Real.exp (-30) else 0 := by
    rw [Finset.sum_eq_single t (fun j _ hj => if_neg fun h => hj h.1) (fun h => absurd (Finset.mem_univ t) h)]
    simp
  have h3 : (if B t then ((Real.exp 30 - Real.exp (-30) : ℝ) : EReal) else 0)
      = (((if B t then Real.exp 30 - Real.exp (-30) else 0) : ℝ) : EReal) := by
    split <;> simp
  rw [h2, h3, ← EReal.coe_mul, add_add_add_comm, ← EReal.coe_add]
  refine Eq.trans ?_ (add_assoc _ _ _).symm
  rw [← EReal.coe_add]
  congr 2
  push_cast
  ring

/-! ## The normalized row -/

/-- A row's norm, held off zero. -/
def nrm {d : ℕ} (x : Fin d → EReal) : EReal :=
  max (Ideal.sqrt (∑ k, x k * x k)) (Ideal.ofBits .f32 730643660#32)

/-- The row over its norm. -/
def unit {d : ℕ} (x : Fin d → EReal) (k : Fin d) : EReal := Ideal.div (x k) (nrm x)

theorem nrm_ne_zero {d : ℕ} (x : Fin d → EReal) : nrm x ≠ 0 := by
  obtain ⟨e, he, h⟩ := ceps
  refine ne_of_gt (lt_of_lt_of_le ?_ (le_max_right _ _))
  rw [h]; exact_mod_cast he

/-- The kernel's scaled row is the row over its norm, times 30. -/
theorem scaled_eq {d : ℕ} (x : Fin d → EReal) (k : Fin d) :
    x k * Ideal.div (Ideal.ofBits .f32 1106247680#32) (nrm x) = unit x k * ((30 : ℝ) : EReal) := by
  unfold unit Ideal.div
  rw [if_neg (nrm_ne_zero x), if_neg (nrm_ne_zero x), c30, mul_left_comm, mul_comm]

theorem sq_nonneg' (a : EReal) : 0 ≤ a * a := by
  induction a with
  | bot => simp
  | top => simp
  | coe r => rw [← EReal.coe_mul]; exact_mod_cast mul_self_nonneg r

/-- The row over its norm is real throughout, whatever the row: where the norm is `⊤` it is zero. -/
theorem unit_isR {d : ℕ} (x : Fin d → EReal) (k : Fin d) : IsR (unit x k) := by
  classical
  unfold unit Ideal.div
  rw [if_neg (nrm_ne_zero x)]
  by_cases hn : nrm x = ⊤
  · exact ⟨0, by rw [hn, EReal.inv_top, mul_zero, EReal.coe_zero]⟩
  have hS : ∑ k, x k * x k ≠ ⊤ := fun h => hn (by
    unfold nrm
    rw [h, Ideal.sqrt_top, max_eq_left le_top])
  have hx : IsR (x k) := by
    have hle : x k * x k ≤ ∑ k, x k * x k :=
      Finset.single_le_sum (f := fun k => x k * x k) (fun i _ => sq_nonneg' (x i)) (Finset.mem_univ k)
    refine isR_of_ne (fun h => hS ?_) (fun h => hS ?_)
    · rw [h, EReal.top_mul_top] at hle; exact top_le_iff.1 hle
    · rw [h, EReal.bot_mul_bot] at hle; exact top_le_iff.1 hle
  refine hx.mul ?_
  have hb : nrm x ≠ ⊥ := fun h => by
    obtain ⟨e, he, h'⟩ := ceps
    have : Ideal.ofBits .f32 730643660#32 ≤ nrm x := le_max_right _ _
    rw [h, h'] at this
    exact absurd this (by simp)
  obtain ⟨r, hr⟩ := isR_of_ne hn hb
  exact ⟨r⁻¹, by rw [hr, EReal.coe_inv]⟩

/-- The kernel's score of a row is 30 times the reference's. -/
theorem score_scaled {d : ℕ} (u w : Fin d → EReal) :
    ∑ k, (u k * ((30 : ℝ) : EReal)) * w k = (∑ k, u k * w k) * ((30 : ℝ) : EReal) := by
  rw [sum_mul_coe _ _ (by norm_num)]
  exact Finset.sum_congr rfl fun k _ => mul_right_comm _ _ _

/-- A zero row scores zero. -/
theorem score_bad {d : ℕ} (u w : Fin d → EReal) (h : Bad w) : ∑ k, u k * w k = 0 :=
  Finset.sum_eq_zero fun k _ => by rw [h k, mul_zero]

end Cert.Oim

end
-- ==== Proof.Index.lean ====
/-
  Three index operations read at an element: a scatter of scalars at (row, column) pairs, a gather at such pairs, and a
  gather along the rows of a matrix, one entry to a row.
-/
module

public import Idealize.ShloMosaic.Lib.Routing.OpsSet

@[expose] public section

noncomputable section

namespace Cert.Oim

open Idealize.ShloMosaic Idealize.ShloMosaic.ValueIdx Idealize.ShloMosaic.Routing

/-- An entry of a list that is `[0, 1]`, by its position. -/
theorem getElem_pair (l : List (Fin 2)) (n : ℕ) (h : n < l.length) (m : Fin 2) (hl : l = [0, 1]) (hn : n = m.val) : l[n]'h = m := by
  subst hl; subst hn; fin_cases m <;> rfl

/-- A coordinate of a rank-one index, whatever name its axis goes by. -/
theorem ix1_val {n : ℕ} (a : Fin n) (X : Fin 1) : ((ix1 a : (shape1 n).Idx) X).val = a.val := by
  rw [Subsingleton.elim X 0]

/-- Update `a` of a scatter of `A` scalars into an `R × C` matrix, a pair of index words each, lands at `(r, c)` exactly
    when its words, read signed, are `r` and `c`. -/
theorem scatter_pair_lands {R C A w : ℕ} (d : ScatterDims (shape2 R C) (shape2 A 2) (shape1 A)) (hi : d.insertedWindowDims = [0, 1])
    (hs : d.scatterDimsToOperandDims = [0, 1]) (hv : d.indexVectorDim = 1) (idx : IVec (shape2 A 2) w) (a : Fin A) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hs]; fin_cases q <;> simp
  have hw : ∀ q : Fin 2, d.window (ix1 a) q = 0 := fun q => by
    unfold ScatterDims.window
    exact dif_neg fun h => (of_decide_eq_true (List.mem_filter.1 h).2) (by rw [hi]; fin_cases q <;> simp)
  have hx : ∀ q : Fin 2, d.start (ix1 a) idx q = (idx (ix2 a q)).toInt := fun q => by
    unfold ScatterDims.start
    rw [dif_pos (hm q)]
    refine congrArg (fun i => (idx i).toInt) (funext fun b => Fin.ext ?_)
    unfold ScatterDims.siIdx
    match b with
    | ⟨0, _⟩ =>
      rw [dif_neg (by rw [hv]; exact (by decide : (0 : ℕ) ≠ 1))]
      unfold ScatterDims.siCoord
      exact ix1_val a _
    | ⟨1, _⟩ =>
      rw [dif_pos (by rw [hv])]
      show List.idxOf q d.scatterDimsToOperandDims = q.val
      rw [hs]; fin_cases q <;> rfl
  rw [resultIdx?_ix2, hx, hx, hw, hw]
  omega

/-- A gather of `A` scalars from an `R × C` matrix at pairs of index words reads `(r, c)` where the words, read signed,
    are `r` and `c`. -/
theorem gather_pair {α : Type} {R C A w : ℕ} (d : GatherDims (shape2 R C) (shape2 A 2) (shape1 A)) (hc : d.collapsedSliceDims = [0, 1])
    (ho : d.operandBatchingDims = []) (hs : d.startIndexMap = [0, 1]) (hv : d.indexVectorDim = 1) (x : (shape2 R C).Idx → α)
    (idx : IVec (shape2 A 2) w) (a : Fin A) (r : Fin R) (c : Fin C) (h0 : (idx (ix2 a 0)).toInt = r.val) (h1 : (idx (ix2 a 1)).toInt = c.val) :
    Host.gather d x idx (ix1 a) = x (ix2 r c) := by
  have hm : ∀ q : Fin 2, q ∈ d.startIndexMap := fun q => by rw [hs]; fin_cases q <;> simp
  have hcm : ∀ q : Fin 2, q ∈ d.collapsedSliceDims := fun q => by rw [hc]; fin_cases q <;> simp
  have hb : ∀ q : Fin 2, q ∉ d.operandBatchingDims := fun q => by rw [ho]; exact List.not_mem_nil
  have hk : ∀ q : Fin 2, q ∉ d.sKept := fun q h => ((d.mem_sKept q).1 h).1 (hcm q)
  have hi : ∀ q : Fin 2, d.siIdx (ix1 a) ⟨d.startIndexMap.idxOf q, List.idxOf_lt_length_iff.2 (hm q)⟩ = ix2 a q := fun q => by
    refine funext fun b => Fin.ext ?_
    unfold GatherDims.siIdx
    match b with
    | ⟨0, _⟩ =>
      rw [dif_neg (by rw [hv]; exact (by decide : (0 : ℕ) ≠ 1))]
      unfold GatherDims.siCoord
      exact ix1_val a _
    | ⟨1, _⟩ =>
      rw [dif_pos (by rw [hv])]
      show List.idxOf q d.startIndexMap = q.val
      rw [hs]; fin_cases q <;> rfl
  have hst : ∀ q : Fin 2, d.start (ix1 a) idx q = min (idx (ix2 a q)).toInt.toNat ((shape2 R C).size q - 1) := fun q => by
    unfold GatherDims.start
    rw [dif_pos (hm q), hi, d.slice_collapsed q (hcm q)]
  unfold Host.gather
  refine congrArg x (funext fun q => Fin.ext ?_)
  show d.start (ix1 a) idx q + d.batchCoord (ix1 a) q + d.offCoord (ix1 a) q = _
  rw [d.batchCoord_eq_zero _ q (hb q), d.offCoord_eq_zero _ q (hk q), hst]
  have hr := r.isLt
  have hcc := c.isLt
  match q with
  | ⟨0, _⟩ =>
    show min (idx (ix2 a 0)).toInt.toNat (R - 1) + 0 + 0 = r.val
    rw [h0]; omega
  | ⟨1, _⟩ =>
    show min (idx (ix2 a 1)).toInt.toNat (C - 1) + 0 + 0 = c.val
    rw [h1]; omega

/-- A gather of one entry to a row of an `A × C` matrix reads row `a`'s entry `c` where row `a`'s index word, read signed,
    is `c`. -/
theorem gather_along {α : Type} {C A w : ℕ} (d : GatherDims (shape2 A C) (shape3 A 1 1) (shape2 A 1)) (hf : d.offsetDims = [])
    (hc : d.collapsedSliceDims = [1]) (ho : d.operandBatchingDims = [0]) (hsb : d.startIndicesBatchingDims = [0]) (hs : d.startIndexMap = [1])
    (hv : d.indexVectorDim = 2) (x : (shape2 A C).Idx → α)
    (idx : IVec (shape3 A 1 1) w) (a : Fin A) (c : Fin C) (h : (idx (ix3 a 0 0)).toInt = c.val) :
    Host.gather d x idx (ix2 a 0) = x (ix2 a c) := by
  have hm : (1 : Fin 2) ∈ d.startIndexMap := by rw [hs]; simp
  have hm0 : (0 : Fin 2) ∉ d.startIndexMap := by rw [hs]; simp
  have hb1 : (1 : Fin 2) ∉ d.operandBatchingDims := by rw [ho]; simp
  have hb0 : (0 : Fin 2) ∈ d.operandBatchingDims := by rw [ho]; simp
  have hk1 : (1 : Fin 2) ∉ d.sKept := fun h => ((d.mem_sKept 1).1 h).1 (by rw [hc]; simp)
  have hk0 : (0 : Fin 2) ∉ d.sKept := fun h => ((d.mem_sKept 0).1 h).2 hb0
  have hbd : d.batchDims = [0, 1] := by
    show (shape2 A 1).kept d.offsetDims = _
    rw [hf]; rfl
  have hsk : d.siKept = [0, 1] := by
    show (List.finRange 3).filter (fun x => decide (x.val ≠ d.indexVectorDim)) = _
    rw [hv]; rfl
  have hco : ∀ (b : Fin 3) (hb : b ∈ d.siKept) (hb0 : b = 0), (d.siCoord (ix2 a 0) b hb).val = a.val := fun b hb hb0 => by
    subst hb0
    unfold GatherDims.siCoord
    simp only [Fin.val_cast]
    rw [getElem_pair _ _ _ 0 hbd (by rw [hsk]; rfl)]
  have hi : d.siIdx (ix2 a 0) ⟨d.startIndexMap.idxOf 1, List.idxOf_lt_length_iff.2 hm⟩ = ix3 a 0 0 := by
    refine funext fun b => Fin.ext ?_
    match b with
    | ⟨0, _⟩ =>
      unfold GatherDims.siIdx
      rw [dif_neg (by rw [hv]; exact (by decide : (0 : ℕ) ≠ 2))]
      exact hco _ _ rfl
    | ⟨1, h1⟩ =>
      have e : ∀ u v : Fin ((shape3 A 1 1).size ⟨1, h1⟩), u.val = v.val := fun u v => by
        have hu : u.val < 1 := u.isLt
        have hv' : v.val < 1 := v.isLt
        omega
      exact e _ _
    | ⟨2, h2⟩ =>
      have e : ∀ u v : Fin ((shape3 A 1 1).size ⟨2, h2⟩), u.val = v.val := fun u v => by
        have hu : u.val < 1 := u.isLt
        have hv' : v.val < 1 := v.isLt
        omega
      exact e _ _
  unfold Host.gather
  refine congrArg x (funext fun q => Fin.ext ?_)
  show d.start (ix2 a 0) idx q + d.batchCoord (ix2 a 0) q + d.offCoord (ix2 a 0) q = _
  match q with
  | ⟨0, _⟩ =>
    have e1 : d.start (ix2 a 0) idx 0 = 0 := by unfold GatherDims.start; exact dif_neg hm0
    have e2 : d.batchCoord (ix2 a 0) 0 = a.val := by
      unfold GatherDims.batchCoord
      rw [dif_pos hb0]
      refine hco _ _ ?_
      have : ∀ (l : List (Fin 3)) (n : ℕ) (h : n < l.length), l = [0] → n = 0 → l[n]'h = 0 := by
        intro l n h hl hn; subst hl; subst hn; rfl
      exact this _ _ _ hsb (by rw [ho]; rfl)
    show d.start (ix2 a 0) idx 0 + d.batchCoord (ix2 a 0) 0 + d.offCoord (ix2 a 0) 0 = a.val
    rw [e1, e2, d.offCoord_eq_zero _ 0 hk0]; omega
  | ⟨1, _⟩ =>
    have e1 : d.start (ix2 a 0) idx 1 = min (idx (ix3 a 0 0)).toInt.toNat (C - 1) := by
      unfold GatherDims.start
      rw [dif_pos hm, hi, d.slice_collapsed 1 (by rw [hc]; simp)]
      rfl
    show d.start (ix2 a 0) idx 1 + d.batchCoord (ix2 a 0) 1 + d.offCoord (ix2 a 0) 1 = c.val
    have hcc := c.isLt
    rw [e1, d.batchCoord_eq_zero _ 1 hb1, d.offCoord_eq_zero _ 1 hk1, h]; omega

end Cert.Oim

end
-- ==== Proof.RefVal.lean ====
/-
  The reference's arrays read at an index, over the extended reals.
-/
module

public import proofs.«01_k».proof.Proof.RefStage
public import proofs.«01_k».proof.Proof.Math
public import proofs.«01_k».proof.Proof.Index
public import Idealize.ShloMosaic.Lib.Pointwise
public import Idealize.ShloMosaic.Lib.Pointwise.IndexBridge

@[expose] public section

set_option maxRecDepth 16384

noncomputable section

namespace Cert.Oim.Ref

open Cert.ReferenceIdeal Cert.ReferenceIdeal.Gen
open Idealize.ShloMosaic Idealize.SL.Sem

/-! ## Words and bits -/

/-- The conjunction of finitely many bits is one exactly when each is. -/
theorem fold_andi_eq_one {ι : Type} (s : Finset ι) (f : ι → BitVec 1) :
    s.fold IntOp.andi 1#1 f = 1#1 ↔ ∀ i ∈ s, f i = 1#1 := by
  classical
  induction s using Finset.induction_on with
  | empty => simp
  | insert a s ha ih => rw [Finset.fold_insert ha, IntOp.andi_eq_one, ih, Finset.forall_mem_insert]

/-- A broadcast down the columns, read at an element. -/
theorem bcCols' {α : Type} {n m : ℕ} (h₁ : (⟨1, ![m]⟩ : Shape).BroadcastsInDim ⟨2, ![1, m]⟩ (![1] : Fin 1 → Fin 2))
    (h₂ : (⟨2, ![1, m]⟩ : Shape).BroadcastsInDim ⟨2, ![n, m]⟩ (![0, 1] : Fin 2 → Fin 2)) (v : (⟨1, ![m]⟩ : Shape).Idx → α) (p : Fin n) (q : Fin m) :
    broadcastInDim ⟨2, ![n, m]⟩ ![0, 1] h₂ (broadcastInDim ⟨2, ![1, m]⟩ ![1] h₁ v) (ix2 p q) = v (ix1 q) := by
  rw [ix2_eq_valueIdx, ix1_eq_valueIdx]
  exact Routing.bcCols h₁ h₂ v p q

/-- A broadcast along the rows, read at an element. -/
theorem bcRows' {α : Type} {n m : ℕ} (h₁ : (⟨1, ![n]⟩ : Shape).BroadcastsInDim ⟨2, ![n, 1]⟩ (![0] : Fin 1 → Fin 2))
    (h₂ : (⟨2, ![n, 1]⟩ : Shape).BroadcastsInDim ⟨2, ![n, m]⟩ (![0, 1] : Fin 2 → Fin 2)) (v : (⟨1, ![n]⟩ : Shape).Idx → α) (p : Fin n) (q : Fin m) :
    broadcastInDim ⟨2, ![n, m]⟩ ![0, 1] h₂ (broadcastInDim ⟨2, ![n, 1]⟩ ![0] h₁ v) (ix2 p q) = v (ix1 p) := by
  rw [ix2_eq_valueIdx, ix1_eq_valueIdx]
  exact Routing.bcRows h₁ h₂ v p q

/-- A column read at an element. -/
theorem bcCol' {α : Type} {n : ℕ} (h₁ : (⟨1, ![n]⟩ : Shape).BroadcastsInDim ⟨2, ![n, 1]⟩ (![0] : Fin 1 → Fin 2))
    (v : (⟨1, ![n]⟩ : Shape).Idx → α) (p : Fin n) : broadcastInDim ⟨2, ![n, 1]⟩ ![0] h₁ v (ix2 p 0) = v (ix1 p) := by
  rw [ix2_eq_valueIdx, ix1_eq_valueIdx]
  exact Routing.bcCol h₁ v p

theorem select_eq_ite {α : Type} (c : BitVec 1) (P : Prop) [Decidable P] (h : c = 1#1 ↔ P) (a b : α) :
    Scalar.select c a b = if P then a else b := by
  unfold Scalar.select
  by_cases hp : P
  · rw [if_pos hp]; exact if_pos (h.2 hp)
  · rw [if_neg hp]; exact if_neg fun e => hp (h.1 e)

/-! ## The scores -/

/-- Row `b`'s features. -/
abbrev row {n : ℕ} (x : (⟨2, ![n, 128]⟩ : Shape).Idx → EReal) (b : Fin n) : Fin 128 → EReal := fun k => x (ix2 b k)

theorem xr_apply (x : FVec Ideal S1024x128 .f32) (b : Fin 1024) (k : Fin 128) : xr x (ix2 b k) = unit (row x b) k := by
  unfold xr
  simp only [pointwise, Nat.reduceEqDiff, reduceDIte, zero_add]
  rfl

theorem badL_apply (lut : FVec Ideal S100000x128 .f32) (j : Fin 100000) : badL lut (ix1 j) = 1#1 ↔ Bad (row lut j) := by
  unfold badL
  simp only [pointwise]
  rw [fold_andi_eq_one]
  simp only [Finset.mem_univ, true_implies, WordCmp.ofBool_decide_eq_one_iff]
  rfl

theorem badC_apply (cq : FVec Ideal S5000x128 .f32) (j : Fin 5000) : badC cq (ix1 j) = 1#1 ↔ Bad (row cq j) := by
  unfold badC
  simp only [pointwise]
  rw [fold_andi_eq_one]
  simp only [Finset.mem_univ, true_implies, WordCmp.ofBool_decide_eq_one_iff]
  rfl

open Classical in
theorem scoreL_apply (x : FVec Ideal S1024x128 .f32) (lut : FVec Ideal S100000x128 .f32) (b : Fin 1024) (j : Fin 100000) :
    scoreL x lut (ix2 b j) = if Bad (row lut j) then ((-1 : ℝ) : EReal) else ∑ k, unit (row x b) k * row lut j k := by
  unfold scoreL
  rw [select, bcCols', select_eq_ite _ _ (badL_apply lut j)]
  simp only [pointwise, zero_add, xr_apply]
  rw [← cm1]
  rfl

open Classical in
theorem scoreC_apply (x : FVec Ideal S1024x128 .f32) (cq : FVec Ideal S5000x128 .f32) (b : Fin 1024) (j : Fin 5000) :
    scoreC x cq (ix2 b j) = if Bad (row cq j) then ((-1 : ℝ) : EReal) else ∑ k, unit (row x b) k * row cq j k := by
  unfold scoreC
  rw [select, bcCols', select_eq_ite _ _ (badC_apply cq j)]
  simp only [pointwise, zero_add, xr_apply]
  rw [← cm1]
  rfl

/-! ## The sample's own column -/

/-- A word below `2 ^ 31` that is not negative stands as it is under a wrap of negatives. -/
theorem wrap_small (w a : BitVec 32) (h : w.toNat < 2 ^ 31) : Scalar.select (IntOp.cmpi .slt w 0#32) a w = w :=
  Routing.wrap_of_lt w a h

theorem rowIx_apply (b : Fin 1024) : rowIx (ix1 b) = BitVec.ofNat 32 b.val := by
  unfold rowIx
  simp only [pointwise]
  have hb := b.isLt
  refine wrap_small _ _ ?_
  rw [BitVec.toNat_ofNat]; omega

/-- A label that names a row of the table stays as it is. -/
theorem colIx_apply (lab : IVec S1024 32) (b : Fin 1024) (t : Fin 100000) (h : lab (ix1 b) = BitVec.ofNat 32 t.val) :
    colIx lab (ix1 b) = BitVec.ofNat 32 t.val := by
  unfold colIx
  simp only [pointwise, h]
  have ht := t.isLt
  have e : IntOp.minsi (BitVec.ofNat 32 t.val) 99999#32 = BitVec.ofNat 32 t.val := by
    unfold IntOp.minsi
    split
    · rfl
    · rename_i hn
      rw [BitVec.slt_eq_decide, decide_eq_true_iff, WordCmp.toInt_ofNat_of_lt (by omega)] at hn
      have e9 : (99999#32 : BitVec 32).toInt = 99999 := by decide
      rw [e9] at hn
      have : t.val = 99999 := by omega
      rw [this]
  rw [e]
  refine wrap_small _ _ ?_
  rw [BitVec.toNat_ofNat]; omega

theorem pairIx_zero (lab : IVec S1024 32) (b : Fin 1024) : pairIx (F := Ideal) lab (ix2 b 0) = rowIx (ix1 b) := by
  unfold pairIx Value.fn_main_v39
  refine (concatenate_pair_apply_left (t := S1024x2) (s₁ := S1024x1) (s₂ := S1024x1) 1 _ _ concatenates_S1024x1_S1024x1_S1024x2_d1 (ix2 b 0) rfl (ix2 b 0) fun a => ?_).trans (bcCol' _ _ b)
  match a with
  | ⟨0, _⟩ => rfl
  | ⟨1, _⟩ => rfl

theorem pairIx_one (lab : IVec S1024 32) (b : Fin 1024) : pairIx (F := Ideal) lab (ix2 b 1) = colIx lab (ix1 b) := by
  unfold pairIx Value.fn_main_v39
  refine (concatenate_pair_apply_right (t := S1024x2) (s₁ := S1024x1) (s₂ := S1024x1) 1 _ _ concatenates_S1024x1_S1024x1_S1024x2_d1 (ix2 b 1) rfl rfl (ix2 b 0) (fun a ha => ?_) rfl).trans (bcCol' _ _ b)
  match a with
  | ⟨0, _⟩ => rfl
  | ⟨1, _⟩ => exact absurd rfl ha

/-- Whether the sample's own row is zero throughout. -/
theorem badPos_apply (lab : IVec S1024 32) (lut : FVec Ideal S100000x128 .f32) (b : Fin 1024) (t : Fin 100000)
    (h : lab (ix1 b) = BitVec.ofNat 32 t.val) : badPos lab lut (ix1 b) = 1#1 ↔ Bad (row lut t) := by
  have ht := t.isLt
  have e : badPos lab lut (ix1 b) = badL lut (ix1 t) := by
    unfold badPos
    rw [ix1_eq_valueIdx]
    refine (Routing.gather_take1 _ rfl rfl rfl rfl _ _ b (⟨t.val, by omega⟩ : Fin 100001) ?_ (by norm_num)).trans ?_
    · refine (Routing.bcCol _ _ b).trans ?_
      rw [← ix1_eq_valueIdx]
      simp only [pointwise, h]
      refine wrap_small _ _ ?_
      rw [BitVec.toNat_ofNat]; omega
    · unfold Value.fn_main_v9
      refine concatenate_pair_apply_left (t := S100001) (s₁ := S100000) (s₂ := S1) 0 _ _ concatenates_S100000_S1_S100001_d0 _ rfl (ix1 t) fun a => ?_
      match a with
      | ⟨0, _⟩ => rfl
  rw [e]; exact badL_apply lut t

theorem toInt_small {n : ℕ} (h : n < 2 ^ 31) : (BitVec.ofNat 32 n).toInt = n := WordCmp.toInt_ofNat_of_lt h

open Classical in
/-- What is set at the sample's own column. -/
theorem ownScore_apply (x : FVec Ideal S1024x128 .f32) (lab : IVec S1024 32) (lut : FVec Ideal S100000x128 .f32) (b : Fin 1024) (t : Fin 100000)
    (h : lab (ix1 b) = BitVec.ofNat 32 t.val) :
    ownScore x lab lut (ix1 b) = if Bad (row lut t) then 1 else ∑ k, unit (row x b) k * row lut t k := by
  have ht := t.isLt
  have hb := b.isLt
  have e : Host.gather gather_S1024x100000_S1024x2_S1024_n_01_n_n_01_1_11 (scoreL x lut) (pairIx (F := Ideal) lab) (ix1 b) = scoreL x lut (ix2 b t) := by
    have e1 : (pairIx (F := Ideal) lab (ValueIdx.ix2 b 0)).toInt = b.val := by
      rw [← ix2_eq_valueIdx, pairIx_zero, rowIx_apply, toInt_small (by omega)]
    have e2 : (pairIx (F := Ideal) lab (ValueIdx.ix2 b 1)).toInt = t.val := by
      rw [← ix2_eq_valueIdx, pairIx_one, colIx_apply lab b t h, toInt_small (by omega)]
    rw [ix1_eq_valueIdx, ix2_eq_valueIdx]
    exact gather_pair _ rfl rfl rfl rfl _ _ b b t e1 e2
  unfold ownScore
  rw [select, select_eq_ite _ _ (badPos_apply lab lut b t h), e, scoreL_apply]
  split
  · simp only [pointwise]
    exact Ideal.ofBits_one_f32
  · rfl

open Classical in
/-- The table's scores in a row whose label names row `t`. -/
theorem setL_apply (x : FVec Ideal S1024x128 .f32) (lab : IVec S1024 32) (lut : FVec Ideal S100000x128 .f32) (b : Fin 1024) (t : Fin 100000)
    (h : lab (ix1 b) = BitVec.ofNat 32 t.val) (j : Fin 100000) :
    setL x lab lut (ix2 b j)
      = if Bad (row lut j) then (if j = t then 1 else ((-1 : ℝ) : EReal)) else ∑ k, unit (row x b) k * row lut j k := by
  have ht := t.isLt
  have hland : ∀ a : Fin 1024, scatter_S1024x100000_S1024x2_S1024_n_01_01_1.resultIdx? (ix1 a) (pairIx (F := Ideal) lab) = some (ix2 b j)
      ↔ a = b ∧ j = t := by
    intro a
    have ha := a.isLt
    have hb := b.isLt
    have hj := j.isLt
    have hh := scatter_pair_lands scatter_S1024x100000_S1024x2_S1024_n_01_01_1 rfl rfl rfl (pairIx (F := Ideal) lab) a b j
    rw [← ix1_eq_valueIdx, ← ix2_eq_valueIdx, ← ix2_eq_valueIdx, ← ix2_eq_valueIdx, pairIx_zero, pairIx_one, rowIx_apply, toInt_small (by omega)] at hh
    rw [hh]
    constructor
    · rintro ⟨h1, h2⟩
      have e : a = b := Fin.ext (by omega)
      subst e
      rw [colIx_apply lab a t h, toInt_small (by omega)] at h2
      exact ⟨rfl, Fin.ext (by omega)⟩
    · rintro ⟨rfl, rfl⟩
      rw [colIx_apply lab a j h, toInt_small (by omega)]
      exact ⟨rfl, rfl⟩
  unfold setL
  by_cases hj : j = t
  · rw [Routing.scatter_set_hit _ _ _ _ _ (ownScore x lab lut (ix1 b)) (fun k hk => by
      rw [eq_ix1 k] at hk ⊢
      rw [((hland _).1 hk).1]) (ix1 b) ((hland b).2 ⟨rfl, hj⟩), ownScore_apply x lab lut b t h, hj, if_pos rfl]
  · rw [Routing.scatter_set_miss _ _ _ _ _ (fun k hk => by
      rw [eq_ix1 k] at hk
      exact hj ((hland _).1 hk).2), scoreL_apply, if_neg hj]

/-! ## All scores, and the loss -/

theorem proj_left (x : FVec Ideal S1024x128 .f32) (lab : IVec S1024 32) (lut : FVec Ideal S100000x128 .f32) (cq : FVec Ideal S5000x128 .f32) (b : Fin 1024)
    (j : Fin 100000) (j' : Fin 105000) (hj : j'.val = j.val) : proj x lab lut cq (ix2 b j') = setL x lab lut (ix2 b j) * ((30 : ℝ) : EReal) := by
  have e : Value.fn_main_v60 (setL x lab lut) (scoreC x cq) (ix2 b j') = setL x lab lut (ix2 b j) := by
    unfold Value.fn_main_v60
    refine concatenate_pair_apply_left (t := S1024x105000) (s₁ := S1024x100000) (s₂ := S1024x5000) 1 _ _ concatenates_S1024x100000_S1024x5000_S1024x105000_d1 _ rfl (ix2 b j) fun a => ?_
    match a with
    | ⟨0, _⟩ => rfl
    | ⟨1, _⟩ => exact hj.symm
  unfold proj
  show Value.fn_main_v60 (setL x lab lut) (scoreC x cq) (ix2 b j') * Ideal.ofBits .f32 1106247680#32 = _
  rw [e, c30]

theorem proj_right (x : FVec Ideal S1024x128 .f32) (lab : IVec S1024 32) (lut : FVec Ideal S100000x128 .f32) (cq : FVec Ideal S5000x128 .f32) (b : Fin 1024)
    (j : Fin 5000) (j' : Fin 105000) (hj : j'.val = 100000 + j.val) : proj x lab lut cq (ix2 b j') = scoreC x cq (ix2 b j) * ((30 : ℝ) : EReal) := by
  have e : Value.fn_main_v60 (setL x lab lut) (scoreC x cq) (ix2 b j') = scoreC x cq (ix2 b j) := by
    unfold Value.fn_main_v60
    refine concatenate_pair_apply_right (t := S1024x105000) (s₁ := S1024x100000) (s₂ := S1024x5000) 1 _ _ concatenates_S1024x100000_S1024x5000_S1024x105000_d1 _ rfl rfl (ix2 b j) (fun a ha => ?_) ?_
    · match a with
      | ⟨0, _⟩ => rfl
      | ⟨1, _⟩ => exact absurd rfl ha
    · show j.val + 100000 = j'.val
      omega
  unfold proj
  show Value.fn_main_v60 (setL x lab lut) (scoreC x cq) (ix2 b j') * Ideal.ofBits .f32 1106247680#32 = _
  rw [e, c30]

/-- A reduction by the maximum along the rows, at any extents. -/
theorem reduceMax_apply {n m : ℕ} (z : (⟨2, ![n, m]⟩ : Shape).Idx → EReal) (v : (⟨0, ![]⟩ : Shape).Idx → EReal)
    (h : (⟨2, ![n, m]⟩ : Shape).ReducesTo [1] ⟨1, ![n]⟩) (hu : 0 < (⟨0, ![]⟩ : Shape).numel) (b : Fin n) :
    Host.reduce (FloatOps.maximumf (F := Ideal) (φ := .f32)) z v h hu (ix1 b) = Finset.fold max (v (Shape.Idx.first hu)) (fun k => z (ix2 b k)) Finset.univ := by
  simp only [pointwise]

theorem rowMax_apply (z : FVec Ideal S1024x105000 .f32) (b : Fin 1024) :
    rowMax z (ix1 b) = max ⊥ (Finset.fold max ⊥ (fun k => z (ix2 b k)) Finset.univ) := by
  have e := reduceMax_apply z (constant (F := Ideal) S_ .f32 0xFF800000#32) reducesTo_S1024x105000_S1024_d1 h_S_ b
  have c : (constant (F := Ideal) S_ .f32 0xFF800000#32) (Shape.Idx.first h_S_) = (⊥ : EReal) := cbot
  rw [c] at e
  unfold rowMax
  rw [maximumf, e]
  exact congrArg (fun v : EReal => max v _) cbot

theorem shifted_apply (z : FVec Ideal S1024x105000 .f32) (μ : FVec Ideal S1024 .f32) (b : Fin 1024) (j : Fin 105000) :
    shifted z μ (ix2 b j) = z (ix2 b j) - μ (ix1 b) := by
  unfold shifted
  rw [subf, bcRows']
  rfl

theorem expSum_apply (y : FVec Ideal S1024x105000 .f32) (b : Fin 1024) : expSum y (ix1 b) = 0 + ∑ k, Ideal.exp (y (ix2 b k)) := by
  unfold expSum
  simp only [pointwise]

theorem lessLog_apply (y : FVec Ideal S1024x105000 .f32) (s : FVec Ideal S1024 .f32) (b : Fin 1024) (j : Fin 105000) :
    lessLog y s (ix2 b j) = y (ix2 b j) - Ideal.log (s (ix1 b)) := by
  unfold lessLog
  simp only [pointwise, Nat.reduceEqDiff, reduceDIte]

/-- A row's negated log-softmax, read at an entry that is real. -/
theorem neg_logp_apply (z : FVec Ideal S1024x105000 .f32) (b : Fin 1024) (j : Fin 105000) (h : IsR (z (ix2 b j))) :
    -(logp z (ix2 b j)) = Ideal.log (∑ k, Ideal.exp (z (ix2 b k))) - z (ix2 b j) := by
  unfold logp
  rw [lessLog_apply, shifted_apply, expSum_apply]
  simp only [shifted_apply, rowMax_apply]
  exact logSumExp (fun k => z (ix2 b k)) j h

/-- The column read in a row whose label names row `t`. -/
theorem takeIx_apply (lab : IVec S1024 32) (b : Fin 1024) (t : Fin 100000) (h : lab (ix1 b) = BitVec.ofNat 32 t.val) :
    takeIx (tgtIx lab) (ix3 b 0 0) = BitVec.ofNat 32 t.val := by
  have ht := t.isLt
  have e : tgtIx lab (ix2 b 0) = BitVec.ofNat 32 t.val := by
    unfold tgtIx
    rw [bcCol']
    unfold validIx
    simp only [pointwise, h]
    rw [select_eq_ite _ True ?_, if_pos trivial]
    rw [WordCmp.cmpi_ne_ofNat (by omega) (by omega), WordCmp.ofBool_decide_eq_one_iff]
    exact ⟨fun _ => trivial, fun _ => by omega⟩
  unfold takeIx
  simp only [pointwise, e]
  refine wrap_small _ _ ?_
  rw [BitVec.toNat_ofNat]; omega

theorem takeOK_apply (i : IVec S1024x1x1 32) (b : Fin 1024) (n : ℕ) (hn : n < 105000) (h : i (ix3 b 0 0) = BitVec.ofNat 32 n) :
    takeOK i (ix2 b 0) = 1#1 := by
  unfold takeOK
  simp only [pointwise]
  rw [fold_andi_eq_one]
  intro q _
  rw [Subsingleton.elim q 0]
  show IntOp.andi (IntOp.cmpi .sge (i (ix3 b 0 0)) 0#32) (IntOp.cmpi .sle (i (ix3 b 0 0)) 104999#32) = 1#1
  rw [h, IntOp.andi_eq_one, WordCmp.cmpi_sge_ofNat (by omega) (by omega), WordCmp.cmpi_sle_ofNat (by omega) (by omega),
    WordCmp.ofBool_decide_eq_one_iff, WordCmp.ofBool_decide_eq_one_iff]
  omega

/-- The entry taken in a row whose label names row `t`. -/
theorem taken_apply (z : FVec Ideal S1024x105000 .f32) (lab : IVec S1024 32) (b : Fin 1024) (t : Fin 100000) (h : lab (ix1 b) = BitVec.ofNat 32 t.val)
    (t' : Fin 105000) (ht' : t'.val = t.val) : taken z (tgtIx lab) (ix2 b 0) = z (ix2 b t') := by
  have ht := t.isLt
  have e := takeIx_apply lab b t h
  unfold taken
  rw [select, select_eq_ite _ True ⟨fun _ => trivial, fun _ => takeOK_apply _ b t.val (by omega) e⟩, if_pos trivial]
  rw [ix2_eq_valueIdx, ix2_eq_valueIdx]
  refine gather_along _ rfl rfl rfl rfl rfl rfl _ _ b t' ?_
  rw [← ix3_eq_valueIdx, e, toInt_small (by omega), ht']

/-- The loss of a row whose label names row `t`. -/
theorem rowLoss_valid (x : FVec Ideal S1024x128 .f32) (lab : IVec S1024 32) (lut : FVec Ideal S100000x128 .f32) (cq : FVec Ideal S5000x128 .f32) (b : Fin 1024)
    (t : Fin 100000) (h : lab (ix1 b) = BitVec.ofNat 32 t.val) (t' : Fin 105000) (ht' : t'.val = t.val) (hr : IsR (proj x lab lut cq (ix2 b t'))) :
    rowLoss x lab lut cq (ix1 b)
      = Ideal.log (∑ k, Ideal.exp (proj x lab lut cq (ix2 b k))) - proj x lab lut cq (ix2 b t') := by
  have ht := t.isLt
  have e : shapeCast S1024 (taken (logp (proj x lab lut cq)) (tgtIx lab)) shapeCasts_S1024x1_S1024 (ix1 b) = logp (proj x lab lut cq) (ix2 b t') := by
    simp only [pointwise]
    exact taken_apply _ lab b t h t' ht'
  unfold rowLoss
  have hv : validIx lab (ix1 b) = 1#1 ↔ True := by
    unfold validIx
    simp only [pointwise, h]
    rw [WordCmp.cmpi_ne_ofNat (by omega) (by omega), WordCmp.ofBool_decide_eq_one_iff]
    exact ⟨fun _ => trivial, fun _ => by omega⟩
  rw [select, select_eq_ite _ True hv, if_pos trivial]
  show -(shapeCast S1024 (taken (logp (proj x lab lut cq)) (tgtIx lab)) shapeCasts_S1024x1_S1024 (ix1 b)) = _
  rw [e]
  exact neg_logp_apply _ b t' hr

/-- The loss of a row with the ignored label. -/
theorem rowLoss_ignored (x : FVec Ideal S1024x128 .f32) (lab : IVec S1024 32) (lut : FVec Ideal S100000x128 .f32) (cq : FVec Ideal S5000x128 .f32) (b : Fin 1024)
    (h : lab (ix1 b) = 100000#32) : rowLoss x lab lut cq (ix1 b) = 0 := by
  unfold rowLoss
  have hv : validIx lab (ix1 b) = 1#1 ↔ False := by
    unfold validIx
    simp only [pointwise, h]
    decide
  rw [select, select_eq_ite _ False hv, if_neg not_false]
  simp only [pointwise]
  exact Ideal.ofBits_zero_f32

/-- The reference's result is the rows' losses, each over 1024, summed. -/
theorem out_apply (x : FVec Ideal S1024x128 .f32) (lab : IVec S1024 32) (lut : FVec Ideal S100000x128 .f32) (cq : FVec Ideal S5000x128 .f32) :
    out x lab lut cq ValueIdx.ix0 = (∑ b, rowLoss x lab lut cq (ix1 b)) * ((1 / 1024 : ℝ) : EReal) := by
  rw [← ix0_eq_valueIdx]
  unfold out
  simp only [pointwise]
  rw [zero_add, sum_mul_coe _ _ (by norm_num)]
  refine Finset.sum_congr rfl fun b _ => ?_
  rw [c1024, Ideal.div_coe (by norm_num)]

end Cert.Oim.Ref

end
-- ==== Proof.KVal.lean ====
/-
  What the TensorCore call's arrays hold, index by index, at the extended reals.
-/
module

public import proofs.«01_k».proof.Proof.TcData
public import proofs.«01_k».proof.Proof.RefVal
public import Idealize.ShloMosaic.Lib.Pointwise
public import Idealize.ShloMosaic.Lib.Pointwise.IndexBridge
public import Idealize.ShloMosaic.Lib.IdealHost
public import Idealize.ShloMosaic.Lib.IndicatorCount

@[expose] public section

set_option maxRecDepth 16384

noncomputable section

namespace Cert.Oim

open Cert.KernelIdeal Cert.KernelIdeal.Gen
open Idealize.ShloMosaic Idealize.SL.Sem

/-- Two words compare unequal exactly when they are. -/
theorem cmpi_ne_iff {n : ℕ} (a b : BitVec n) : IntOp.cmpi .ne a b = 1#1 ↔ a ≠ b := by
  by_cases h : a = b
  · simp [IntOp.cmpi, h]
  · have hb : (a != b) = true := bne_iff_ne.2 h
    exact ⟨fun _ => h, fun _ => congrArg BitVec.ofBool hb⟩

/-- The elements of `Fin n` with a property are as many as the numbers below `n` with it. -/
theorem card_filter_fin (p : ℕ → Prop) [DecidablePred p] (n : ℕ) : (Finset.univ.filter fun j : Fin n => p j.val).card = Nat.count p n := by
  rw [Nat.count_eq_card_filter_range, Finset.card_filter, Finset.card_filter, Finset.sum_range]

/-! ## The payloads -/

/-- The scaled row, entry by entry. -/
theorem pay1_apply (x : Vec Ideal S1024x128 .f32) (b : Fin 1024) (k : Fin 128) :
    k1_pay1 (F := Ideal) x (ix2 b k) = unit (Ref.row x b) k * ((30 : ℝ) : EReal) := by
  rw [← scaled_eq]
  unfold k1_pay1
  simp only [pointwise]
  rfl

/-- The scaled row as it is kept. -/
theorem pay2_apply (x : Vec Ideal S1024x128 .f32) (b : Fin 1024) (k : Fin 128) :
    k1_pay2 (F := Ideal) x (ix2 b k) = unit (Ref.row x b) k * ((30 : ℝ) : EReal) := by
  rw [← pay1_apply]
  unfold k1_pay2
  simp only [pointwise]

/-- The scaled row as it is narrowed. -/
theorem pay3_apply (x : Vec Ideal S1024x128 .f32) (b : Fin 1024) (k : Fin 128) :
    k1_pay3 (F := Ideal) x (ix2 b k) = unit (Ref.row x b) k * ((30 : ℝ) : EReal) := by
  rw [← pay1_apply]
  unfold k1_pay3
  simp only [pointwise]

/-- The sums start at zero. -/
theorem pay4_apply (b : Fin 1024) : k1_pay4 (F := Ideal) (ix2 b 0) = 0 := by
  unfold k1_pay4
  simp only [pointwise]

/-- A block of the labelled table adds its rows' exponentials. -/
theorem pay7_apply (w : Vec Ideal S1000x128 .f32) (xb : Vec Ideal S1024x128 .bf16) (s : Vec Ideal S1024x1 .f32) (b : Fin 1024) :
    k1_pay7 (F := Ideal) w xb s (ix2 b 0) = s (ix2 b 0) + ∑ j : Fin 1000, Ideal.exp (∑ k : Fin 128, xb (ix2 b k) * Ref.row w j k) := by
  unfold k1_pay7 k1_pay6
  simp only [pointwise, zero_add]

/-- A block of the queue adds its rows' exponentials. -/
theorem pay10_apply (w : Vec Ideal S1000x128 .f32) (xb : Vec Ideal S1024x128 .bf16) (s : Vec Ideal S1024x1 .f32) (b : Fin 1024) :
    k1_pay10 (F := Ideal) w xb s (ix2 b 0) = s (ix2 b 0) + ∑ j : Fin 1000, Ideal.exp (∑ k : Fin 128, xb (ix2 b k) * Ref.row w j k) := by
  unfold k1_pay10 k1_pay9
  simp only [pointwise, zero_add]

open Classical in
/-- A block's all-zero rows, counted in a word. -/
theorem pay8_apply (w : Vec Ideal S1000x128 .f32) :
    k1_pay8 (F := Ideal) w (ix3 0 0 0) = BitVec.ofNat 32 (Finset.univ.filter fun j : Fin 1000 => Bad (Ref.row w j)).card := by
  unfold k1_pay8 k1_pay6 k1_pay5
  simp only [pointwise, zero_add, one_mul]
  refine (IndicatorCount.fold_addi_setWidth_eq_card (w := 32) _ _).trans (congrArg (BitVec.ofNat 32) ?_)
  refine Finset.card_nbij' (fun x => x.2) (fun j => (0, j)) ?_ ?_ ?_ ?_
  · intro x hx
    have h := (WordCmp.ofBool_decide_eq_one_iff _).1 (Finset.mem_filter.1 hx).2
    refine Finset.mem_filter.2 ⟨Finset.mem_univ _, (sum_abs_eq_zero (Ref.row w x.2)).1 (Eq.trans (Finset.sum_congr rfl fun k _ => ?_) h)⟩
    exact congrArg (fun j => FloatOps.absf (F := Ideal) (φ := .f32) (w (ix2 j k))) (Fin.ext (Nat.zero_add _).symm)
  · intro j hj
    refine Finset.mem_filter.2 ⟨Finset.mem_univ _, (WordCmp.ofBool_decide_eq_one_iff _).2 ?_⟩
    refine Eq.trans (Finset.sum_congr rfl fun k _ => ?_) ((sum_abs_eq_zero (Ref.row w j)).2 (Finset.mem_filter.1 hj).2)
    exact congrArg (fun j => FloatOps.absf (F := Ideal) (φ := .f32) (w (ix2 j k))) (Fin.ext (Nat.zero_add _))
  · rintro ⟨x1, x2⟩ hx
    rw [Subsingleton.elim x1 0]
  · intro j hj
    rfl

open Classical in
/-- The same for a block of the queue. -/
theorem pay11_apply (w : Vec Ideal S1000x128 .f32) :
    k1_pay11 (F := Ideal) w (ix3 0 0 0) = BitVec.ofNat 32 (Finset.univ.filter fun j : Fin 1000 => Bad (Ref.row w j)).card := by
  unfold k1_pay11 k1_pay9 k1_pay5
  simp only [pointwise, zero_add, one_mul]
  refine (IndicatorCount.fold_addi_setWidth_eq_card (w := 32) _ _).trans (congrArg (BitVec.ofNat 32) ?_)
  refine Finset.card_nbij' (fun x => x.2) (fun j => (0, j)) ?_ ?_ ?_ ?_
  · intro x hx
    have h := (WordCmp.ofBool_decide_eq_one_iff _).1 (Finset.mem_filter.1 hx).2
    refine Finset.mem_filter.2 ⟨Finset.mem_univ _, (sum_abs_eq_zero (Ref.row w x.2)).1 (Eq.trans (Finset.sum_congr rfl fun k _ => ?_) h)⟩
    exact congrArg (fun j => FloatOps.absf (F := Ideal) (φ := .f32) (w (ix2 j k))) (Fin.ext (Nat.zero_add _).symm)
  · intro j hj
    refine Finset.mem_filter.2 ⟨Finset.mem_univ _, (WordCmp.ofBool_decide_eq_one_iff _).2 ?_⟩
    refine Eq.trans (Finset.sum_congr rfl fun k _ => ?_) ((sum_abs_eq_zero (Ref.row w j)).2 (Finset.mem_filter.1 hj).2)
    exact congrArg (fun j => FloatOps.absf (F := Ideal) (φ := .f32) (w (ix2 j k))) (Fin.ext (Nat.zero_add _))
  · rintro ⟨x1, x2⟩ hx
    rw [Subsingleton.elim x1 0]
  · intro j hj
    rfl

open Classical in
/-- The loss from the sums, the count and the gathered rows. -/
theorem pay13_apply (n : BitVec 32) (g xn : Vec Ideal S1024x128 .f32) (s : Vec Ideal S1024x1 .f32) (lab : Vec Ideal S1024x1 .i32) :
    k1_pay12 (F := Ideal) (k1_pay13 (F := Ideal) n g xn s lab) (ix2 0 0)
      = (∑ b : Fin 1024, if lab (ix2 b 0) = 100000#32 then (0 : EReal) else
          Ideal.log (s (ix2 b 0) + ((n.toInt : ℝ) : EReal) * ((Real.exp (-30) - 1 : ℝ) : EReal)
              + (if Bad (Ref.row g b) then ((Real.exp 30 - Real.exp (-30) : ℝ) : EReal) else 0))
            - (if Bad (Ref.row g b) then ((30 : ℝ) : EReal) else ∑ k, xn (ix2 b k) * Ref.row g b k)) * ((1 / 1024 : ℝ) : EReal) := by
  unfold k1_pay12 k1_pay13
  simp only [pointwise]
  rw [cinv1024]
  refine congrArg (· * ((1 / 1024 : ℝ) : EReal)) (Finset.sum_congr rfl fun b _ => ?_)
  rw [Fintype.sum_subsingleton _ (0 : Fin 1)]
  have e1 : Scalar.exp (F := Ideal) (φ := .f32) (Ideal.ofBits .f32 3253731328#32) = ((Real.exp (-30) : ℝ) : EReal) := by
    rw [cm30]; exact Ideal.exp_coe _
  have e2 : Scalar.exp (F := Ideal) (φ := .f32) (Ideal.ofBits .f32 1106247680#32) = ((Real.exp 30 : ℝ) : EReal) := by
    rw [c30]; exact Ideal.exp_coe _
  rw [e1, e2, c30]
  have hS := sum_abs_eq_zero (Ref.row g b)
  by_cases hl : lab (ix2 b 0) = 100000#32
  · rw [if_pos hl, Ref.select_eq_ite _ (lab (ix2 b 0) ≠ 100000#32) (cmpi_ne_iff _ _), if_neg (fun h => h hl)]
  · rw [if_neg hl, Ref.select_eq_ite _ (lab (ix2 b 0) ≠ 100000#32) (cmpi_ne_iff _ _), if_pos hl]
    by_cases hb : Bad (Ref.row g b)
    · rw [if_pos hb, if_pos hb, if_pos (hS.2 hb), if_pos (hS.2 hb)]
      norm_num
    · rw [if_neg hb, if_neg hb, if_neg fun h => hb (hS.1 h), if_neg fun h => hb (hS.1 h)]
      norm_num

/-! ## The running state -/

section State

variable (x : Vec Ideal S1024x128 .f32) (lut : Vec Ideal S100000x128 .f32) (cq : Vec Ideal S5000x128 .f32)

theorem accAt_lut (n : ℕ) (h : n < 100) : accAt (F := Ideal) x lut cq (n + 1) = accLut (lutBlk lut n) (accAt (F := Ideal) x lut cq n) := if_pos h
theorem accAt_cq (n : ℕ) : accAt (F := Ideal) x lut cq (100 + n + 1) = accCq (cqBlk cq n) (accAt (F := Ideal) x lut cq (100 + n)) := by
  refine (if_neg (by omega)).trans ?_
  rw [Nat.add_sub_cancel_left]

theorem accAt_zero : accAt (F := Ideal) x lut cq 0 = accInit x := rfl

attribute [local irreducible] accAt

/-- The scaled rows stay as the first point leaves them. -/
theorem accAt_rows (n : ℕ) : (accAt (F := Ideal) x lut cq n).xn = k1_pay2 x ∧ (accAt (F := Ideal) x lut cq n).xb = k1_pay3 x := by
  induction n with
  | zero => rw [accAt_zero]; exact ⟨rfl, rfl⟩
  | succ n ih =>
    by_cases h : n < 100
    · rw [accAt_lut x lut cq n h]; exact ih
    · obtain ⟨k, rfl⟩ : ∃ k, n = 100 + k := ⟨n - 100, by omega⟩
      rw [accAt_cq x lut cq k]; exact ih

/-- Row `j` of the labelled table, for any number `j`. -/
abbrev lutRow (j : ℕ) : Fin 128 → EReal := Ref.row (n := 100000) lut ⟨j % 100000, Nat.mod_lt _ (by decide)⟩
/-- Row `j` of the queue. -/
abbrev cqRow (j : ℕ) : Fin 128 → EReal := Ref.row (n := 5000) cq ⟨j % 5000, Nat.mod_lt _ (by decide)⟩

/-- A row's term of row `b`'s sum. -/
abbrev term (b : Fin 1024) (w : Fin 128 → EReal) : EReal := Ideal.exp ((∑ k, unit (Ref.row x b) k * w k) * ((30 : ℝ) : EReal))

theorem row_lutBlk (n : ℕ) (j : Fin 1000) : Ref.row (lutBlk (F := Ideal) lut n) j = lutRow lut (1000 * n + j.val) := by
  funext k
  unfold lutRow Ref.row lutBlk
  rw [ix2_eq_valueIdx, ix2_eq_valueIdx]
theorem row_cqBlk (n : ℕ) (j : Fin 1000) : Ref.row (cqBlk (F := Ideal) cq n) j = cqRow cq (1000 * n + j.val) := by
  funext k
  unfold cqRow Ref.row cqBlk
  rw [ix2_eq_valueIdx, ix2_eq_valueIdx]

/-- After `n` blocks of the labelled table the sums run over their rows. -/
theorem accAt_sum_lut (b : Fin 1024) (n : ℕ) (h : n ≤ 100) :
    (accAt (F := Ideal) x lut cq n).sm (ix2 b 0) = ∑ j ∈ Finset.range (1000 * n), term x b (lutRow lut j) := by
  induction n with
  | zero => rw [accAt_zero]; exact pay4_apply b
  | succ n ih =>
    rw [accAt_lut x lut cq n (by omega)]
    refine (pay7_apply _ _ _ b).trans ?_
    rw [ih (by omega), Nat.mul_succ 1000 n, Finset.sum_range_add _ (1000 * n) 1000, (accAt_rows x lut cq n).2, Finset.sum_range (n := 1000)]
    refine congrArg _ (Finset.sum_congr rfl fun j _ => congrArg Ideal.exp ?_)
    simp only [row_lutBlk, pay3_apply]
    exact score_scaled _ _

/-- After the whole table and `n` blocks of the queue the sums run over both. -/
theorem accAt_sum_cq (b : Fin 1024) (n : ℕ) :
    (accAt (F := Ideal) x lut cq (100 + n)).sm (ix2 b 0)
      = (∑ j ∈ Finset.range (1000 * 100), term x b (lutRow lut j)) + ∑ j ∈ Finset.range (1000 * n), term x b (cqRow cq j) := by
  induction n with
  | zero => rw [Nat.mul_zero, Finset.sum_range_zero, add_zero, add_zero]; exact accAt_sum_lut x lut cq b 100 le_rfl
  | succ n ih =>
    rw [← Nat.add_assoc, accAt_cq x lut cq n]
    refine (pay10_apply _ _ _ b).trans ?_
    rw [ih, Nat.mul_succ 1000 n, Finset.sum_range_add _ (1000 * n) 1000, (accAt_rows x lut cq (100 + n)).2, Finset.sum_range (n := 1000), add_assoc]
    refine congrArg _ (congrArg _ (Finset.sum_congr rfl fun j _ => congrArg Ideal.exp ?_))
    simp only [row_cqBlk, pay3_apply]
    exact score_scaled _ _

open Classical in
/-- After `n` blocks of the labelled table the count is of their all-zero rows. -/
theorem accAt_count_lut (n : ℕ) (h : n ≤ 100) (y : S1.Idx) :
    (accAt (F := Ideal) x lut cq n).nb y = BitVec.ofNat 32 (Nat.count (fun j => Bad (lutRow lut j)) (1000 * n)) := by
  induction n generalizing y with
  | zero => rw [accAt_zero]; rfl
  | succ n ih =>
    rw [accAt_lut x lut cq n (by omega)]
    have e : extractAt ![0, 0, 0] (k1_pay8 (F := Ideal) (lutBlk (F := Ideal) lut n)) inpos_S1x1x1_p0_0_0 = k1_pay8 (F := Ideal) (lutBlk (F := Ideal) lut n) (ix3 0 0 0) := by
      simp only [pointwise]
    show Scalar.addi _ (extractAt ![0, 0, 0] (k1_pay8 (F := Ideal) (lutBlk (F := Ideal) lut n)) inpos_S1x1x1_p0_0_0) = _
    rw [e, pay8_apply, ih (by omega), Nat.mul_succ 1000 n, Nat.count_add, BitVec.ofNat_add]
    simp only [row_lutBlk]
    rw [card_filter_fin (fun j => Bad (lutRow lut (1000 * n + j)))]
    rfl

open Classical in
/-- After the whole table and `n` blocks of the queue the count is of the all-zero rows of both. -/
theorem accAt_count_cq (n : ℕ) (y : S1.Idx) :
    (accAt (F := Ideal) x lut cq (100 + n)).nb y
      = BitVec.ofNat 32 (Nat.count (fun j => Bad (lutRow lut j)) (1000 * 100) + Nat.count (fun j => Bad (cqRow cq j)) (1000 * n)) := by
  induction n generalizing y with
  | zero => rw [Nat.mul_zero, Nat.count_zero, Nat.add_zero, Nat.add_zero]; exact accAt_count_lut x lut cq 100 le_rfl y
  | succ n ih =>
    rw [← Nat.add_assoc, accAt_cq x lut cq n]
    have e : extractAt ![0, 0, 0] (k1_pay11 (F := Ideal) (cqBlk (F := Ideal) cq n)) inpos_S1x1x1_p0_0_0 = k1_pay11 (F := Ideal) (cqBlk (F := Ideal) cq n) (ix3 0 0 0) := by
      simp only [pointwise]
    show Scalar.addi _ (extractAt ![0, 0, 0] (k1_pay11 (F := Ideal) (cqBlk (F := Ideal) cq n)) inpos_S1x1x1_p0_0_0) = _
    rw [e, pay11_apply, ih, Nat.mul_succ 1000 n, Nat.count_add _ (1000 * n), ← Nat.add_assoc, BitVec.ofNat_add (_ + _) (Nat.count _ 1000)]
    simp only [row_cqBlk]
    rw [card_filter_fin (fun j => Bad (cqRow cq (1000 * n + j)))]
    rfl

/-- The sums at the end, over the table's rows and the queue's. -/
theorem acc_sum (b : Fin 1024) :
    (accAt (F := Ideal) x lut cq 105).sm (ix2 b 0)
      = (∑ j : Fin 100000, term x b (Ref.row lut j)) + ∑ j : Fin 5000, term x b (Ref.row cq j) := by
  refine (accAt_sum_cq x lut cq b 5).trans ?_
  rw [show 1000 * 100 = 100000 from rfl, show 1000 * 5 = 5000 from rfl, Finset.sum_range (n := 100000), Finset.sum_range (n := 5000)]
  refine congrArg₂ _ (Finset.sum_congr rfl fun j _ => ?_) (Finset.sum_congr rfl fun j _ => ?_)
  · exact congrArg (fun i => term x b (Ref.row lut i)) (Fin.ext (Nat.mod_eq_of_lt j.isLt))
  · exact congrArg (fun i => term x b (Ref.row cq i)) (Fin.ext (Nat.mod_eq_of_lt j.isLt))

open Classical in
/-- The count at the end, as an integer. -/
theorem acc_count (y : S1.Idx) :
    ((accAt (F := Ideal) x lut cq 105).nb y).toInt
      = (((Finset.univ.filter fun j : Fin 100000 => Bad (Ref.row lut j)).card + (Finset.univ.filter fun j : Fin 5000 => Bad (Ref.row cq j)).card : ℕ) : ℤ) := by
  have h1 : (Finset.univ.filter fun j : Fin 100000 => Bad (Ref.row lut j)).card = Nat.count (fun j => Bad (lutRow lut j)) 100000 := by
    rw [← card_filter_fin]
    refine congrArg Finset.card (Finset.filter_congr fun j _ => ?_)
    exact iff_of_eq (congrArg (fun i => Bad (Ref.row lut i)) (Fin.ext (Nat.mod_eq_of_lt j.isLt).symm))
  have h2 : (Finset.univ.filter fun j : Fin 5000 => Bad (Ref.row cq j)).card = Nat.count (fun j => Bad (cqRow cq j)) 5000 := by
    rw [← card_filter_fin]
    refine congrArg Finset.card (Finset.filter_congr fun j _ => ?_)
    exact iff_of_eq (congrArg (fun i => Bad (Ref.row cq i)) (Fin.ext (Nat.mod_eq_of_lt j.isLt).symm))
  have b1 : Nat.count (fun j => Bad (lutRow lut j)) 100000 ≤ 100000 := Nat.count_le _
  have b2 : Nat.count (fun j => Bad (cqRow cq j)) 5000 ≤ 5000 := Nat.count_le _
  rw [h1, h2, show (105 : ℕ) = 100 + 5 from rfl, accAt_count_cq x lut cq 5 y]
  generalize Nat.count (fun j => Bad (lutRow lut j)) 100000 = p at b1
  generalize Nat.count (fun j => Bad (cqRow cq j)) 5000 = q at b2
  exact WordCmp.toInt_ofNat_of_lt (by omega)

open Classical in
/-- The loss the call leaves, from the arrays. -/
theorem lossOf_apply (lab : Vec Ideal S1024x1 .i32) (g : Vec Ideal S1024x128 .f32) :
    lossOf (F := Ideal) x lab lut cq g (ix2 0 0)
      = (∑ b : Fin 1024, if lab (ix2 b 0) = 100000#32 then (0 : EReal) else
          Ideal.log (((∑ j : Fin 100000, term x b (Ref.row lut j)) + ∑ j : Fin 5000, term x b (Ref.row cq j))
              + ((((Finset.univ.filter fun j : Fin 100000 => Bad (Ref.row lut j)).card + (Finset.univ.filter fun j : Fin 5000 => Bad (Ref.row cq j)).card : ℕ) : ℝ) : EReal) * ((Real.exp (-30) - 1 : ℝ) : EReal)
              + (if Bad (Ref.row g b) then ((Real.exp 30 - Real.exp (-30) : ℝ) : EReal) else 0))
            - (if Bad (Ref.row g b) then ((30 : ℝ) : EReal) else (∑ k, unit (Ref.row x b) k * Ref.row g b k) * ((30 : ℝ) : EReal))) * ((1 / 1024 : ℝ) : EReal) := by
  refine (pay13_apply _ _ _ _ _).trans ?_
  refine congrArg (· * ((1 / 1024 : ℝ) : EReal)) (Finset.sum_congr rfl fun b _ => ?_)
  rw [acc_sum, acc_count, (accAt_rows x lut cq 105).1, ← score_scaled]
  simp only [pay2_apply]
  rfl

end State

end Cert.Oim

end
-- ==== Proof.Value.lean ====
/-
  The kernel's loss and the reference's are one extended real, row by row.
-/
module

public import proofs.«01_k».proof.Proof.KVal
public import proofs.«01_k».proof.Proof.RefVal
public import proofs.«01_k».proof.Proof.Pre

@[expose] public section

set_option maxRecDepth 16384

noncomputable section

namespace Cert.Oim

open Cert.KernelIdeal Cert.KernelIdeal.Gen
open Idealize.ShloMosaic Idealize.SL.Sem

/-! ## The gathered rows and the labels -/

/-- The row gathered for a label in the table is the label's. -/
theorem row_gathered (lut : Vec Ideal S100000x128 .f32) (lab : IVec S1024 32) (b : Fin 1024) (t : Fin 100000) (h : lab (ix1 b) = BitVec.ofNat 32 t.val) :
    Ref.row (gathered (F := Ideal) lut (ixOf (F := Ideal) lab)) b = Ref.row lut t := by
  have ht := t.isLt
  have hi : ixOf (F := Ideal) lab (ix2 0 b) = BitVec.ofNat 32 t.val := by
    unfold ixOf
    simp only [pointwise, h]
    unfold IntOp.minsi
    split
    · rfl
    · rename_i hs
      simp only [BitVec.slt_eq_decide, BitVec.sle_eq_decide, decide_eq_true_eq, BitVec.toInt_eq_toNat_cond, BitVec.toNat_ofNat, Nat.reducePow, Nat.reduceMod] at hs
      rw [Nat.mod_eq_of_lt (by omega)] at hs
      rw [show t.val = 99999 from by omega]
  have hw : (BitVec.ofNat 32 t.val).toNat = t.val := by
    rw [BitVec.toNat_ofNat]; exact Nat.mod_eq_of_lt (by omega)
  funext k
  show lut (ValueIdx.ix2 ⟨min (ixOf (F := Ideal) lab (ValueIdx.ix2 0 (ix2 b k 0))).toNat 99999, _⟩ (ix2 b k 1)) = lut (ix2 t k)
  rw [ix2_eq_valueIdx t k]
  refine congrArg (fun i => lut (ValueIdx.ix2 i k)) (Fin.ext ?_)
  show min (ixOf (F := Ideal) lab (ValueIdx.ix2 0 b)).toNat 99999 = t.val
  rw [← ix2_eq_valueIdx, hi, hw]
  omega

/-- The labels as a column are the labels. -/
theorem labOf_apply (lab : IVec S1024 32) (b : Fin 1024) : shapeCast S1024x1 lab shapeCasts_S1024_S1024x1 (ix2 b 0) = lab (ix1 b) := by
  simp only [pointwise]

/-! ## One row -/

/-- A sum over two ranges laid end to end. -/
theorem sum_split {n m N : ℕ} (hN : N = n + m) (f : Fin N → EReal) (p : Fin n → EReal) (q : Fin m → EReal)
    (hp : ∀ (j : Fin n) (j' : Fin N), j'.val = j.val → f j' = p j) (hq : ∀ (j : Fin m) (j' : Fin N), j'.val = n + j.val → f j' = q j) :
    ∑ j, f j = (∑ j, p j) + ∑ j, q j := by
  subst hN
  rw [Fin.sum_univ_add]
  exact congrArg₂ _ (Finset.sum_congr rfl fun j _ => hp j _ rfl) (Finset.sum_congr rfl fun j _ => hq j _ rfl)

open Classical in
/-- A labelled sample's loss: the kernel's formula is the reference's. -/
theorem row_eq (x : Vec Ideal S1024x128 .f32) (lab : IVec S1024 32) (lut : Vec Ideal S100000x128 .f32) (cq : Vec Ideal S5000x128 .f32)
    (hlut : ∀ i, IsR (lut i)) (b : Fin 1024) (t : Fin 100000) (h : lab (ix1 b) = BitVec.ofNat 32 t.val) :
    Ref.rowLoss (F := Ideal) x lab lut cq (ix1 b)
      = Ideal.log (((∑ j : Fin 100000, term x b (Ref.row lut j)) + ∑ j : Fin 5000, term x b (Ref.row cq j))
              + ((((Finset.univ.filter fun j : Fin 100000 => Bad (Ref.row lut j)).card + (Finset.univ.filter fun j : Fin 5000 => Bad (Ref.row cq j)).card : ℕ) : ℝ) : EReal) * ((Real.exp (-30) - 1 : ℝ) : EReal)
              + (if Bad (Ref.row lut t) then ((Real.exp 30 - Real.exp (-30) : ℝ) : EReal) else 0))
            - (if Bad (Ref.row lut t) then ((30 : ℝ) : EReal) else (∑ k, unit (Ref.row x b) k * Ref.row lut t k) * ((30 : ℝ) : EReal)) := by
  have ht := t.isLt
  have e : Ref.proj (F := Ideal) x lab lut cq (ix2 b ⟨t.val, by omega⟩)
      = if Bad (Ref.row lut t) then ((30 : ℝ) : EReal) else (∑ k, unit (Ref.row x b) k * Ref.row lut t k) * ((30 : ℝ) : EReal) := by
    rw [Ref.proj_left x lab lut cq b t ⟨t.val, by omega⟩ rfl, Ref.setL_apply x lab lut b t h t, if_pos rfl]
    split
    · rw [one_mul]
    · rfl
  have hr : IsR (Ref.proj (F := Ideal) x lab lut cq (ix2 b ⟨t.val, by omega⟩)) := by
    rw [e]
    split
    · exact ⟨30, rfl⟩
    · exact (IsR.sum _ _ fun k _ => (unit_isR _ k).mul (hlut _)).mul ⟨30, rfl⟩
  rw [Ref.rowLoss_valid x lab lut cq b t h ⟨t.val, by omega⟩ rfl hr, e]
  rw [← sum_exp_scores (fun j : Fin 100000 => ∑ k, unit (Ref.row x b) k * Ref.row lut j k) (fun j : Fin 5000 => ∑ k, unit (Ref.row x b) k * Ref.row cq j k)
    (fun j => Bad (Ref.row lut j)) (fun j => Bad (Ref.row cq j)) t (fun j hj => score_bad _ _ hj) (fun j hj => score_bad _ _ hj)]
  rw [sum_split (n := 100000) (m := 5000) (N := 105000) rfl (fun k => Ideal.exp (Ref.proj (F := Ideal) x lab lut cq (ix2 b k))) _ _
    (fun j j' hj => by rw [Ref.proj_left x lab lut cq b j j' hj, Ref.setL_apply x lab lut b t h j])
    (fun j j' hj => by rw [Ref.proj_right x lab lut cq b j j' hj, Ref.scoreC_apply x cq b j])]

/-! ## The result -/

/-- The kernel's loss is the reference's result. -/
theorem loss_eq (x : Vec Ideal S1024x128 .f32) (lab : IVec S1024 32) (lut : Vec Ideal S100000x128 .f32) (cq : Vec Ideal S5000x128 .f32)
    (hlab : LabOK (F := Ideal) lab) (hlut : ∀ i, IsR (lut i)) :
    lossOf (F := Ideal) x (fun i => shapeCast S1024x1 lab shapeCasts_S1024_S1024x1 i) lut cq (gathered (F := Ideal) lut (ixOf (F := Ideal) lab)) (ix2 0 0)
      = Ref.out (F := Ideal) x lab lut cq ValueIdx.ix0 := by
  classical
  rw [lossOf_apply, Ref.out_apply]
  refine congrArg (· * ((1 / 1024 : ℝ) : EReal)) (Finset.sum_congr rfl fun b _ => ?_)
  rw [labOf_apply]
  by_cases hl : lab (ix1 b) = 100000#32
  · rw [if_pos hl, Ref.rowLoss_ignored x lab lut cq b hl]
  · rw [if_neg hl]
    have hle := hlab (ix1 b)
    have hlt : (lab (ix1 b)).toNat < 100000 := by
      refine lt_of_le_of_ne hle fun he => hl (BitVec.eq_of_toNat_eq (he.trans ?_))
      rfl
    have ht : lab (ix1 b) = BitVec.ofNat 32 (⟨(lab (ix1 b)).toNat, hlt⟩ : Fin 100000).val := by rw [BitVec.ofNat_toNat, BitVec.setWidth_eq]
    rw [row_gathered lut lab b _ ht, row_eq x lab lut cq hlut b _ ht]

end Cert.Oim

end
-- ==== Proof.Algebra.lean ====
/-
  The value claim: from memories that agree on the arguments the kernel and the reference end with one result.
-/
module

public import proofs.«01_k».proof.Proof.Value
public import proofs.«01_k».proof.Proof.PreFin

@[expose] public section

set_option maxRecDepth 16384

noncomputable section

namespace Cert.Oim

open Cert.KernelIdeal Cert.KernelIdeal.Gen
open Idealize.ShloMosaic Idealize.SL.Sem

/-- An extended real whose absolute value is below infinity is a real. -/
theorem isR_of_cmp (a : EReal) (h : FloatOps.cmpf (F := Ideal) (φ := .f32) .olt (FloatOps.hostAbsf (F := Ideal) (φ := .f32) a) (FloatOps.ofBits (F := Ideal) .f32 0x7F800000#32) = 1#1) : IsR a := by
  have e : FloatOps.ofBits (F := Ideal) .f32 0x7F800000#32 = (⊤ : EReal) := by
    show Ideal.ofBits .f32 0x7F800000#32 = ⊤
    simp [Ideal.ofBits, Ideal.ieee]
  rw [e] at h
  have h' : max a (-a) < ⊤ := (WordCmp.ofBool_decide_eq_one_iff _).1 h
  refine isR_of_ne (fun ha => ?_) (fun ha => ?_)
  · rw [ha] at h'; simp at h'
  · rw [ha] at h'; simp at h'

variable (m : (ℓ : Loc nD τ sig) → Buf (Elt Ideal) ℓ)

/-- A one-element block as a scalar. -/
theorem scalar_apply (v : Vec Ideal S1x1 .f32) (i : S_.Idx) : shapeCast S_ v shapeCasts_S1x1_S_ i = v (ix2 0 0) := by
  have hi : i = ix0 := funext fun a => a.elim0
  rw [hi]
  simp only [pointwise]

/-- The kernel's result is the loss of the arrays it finds. -/
theorem outOf_apply (d : Dev nD) (i : S_.Idx) : outOf (F := Ideal) m d i
    = lossOf (F := Ideal) (m (xLoc d)) (fun i => shapeCast S1024x1 (m (labLoc d)) shapeCasts_S1024_S1024x1 i) (m (lutLoc d)) (m (cqLoc d))
        (gathered (F := Ideal) (m (lutLoc d)) (ixOf (F := Ideal) (m (labLoc d)))) (ix2 0 0) :=
  scalar_apply _ i

/-- It is the reference's function of the arguments. -/
theorem outOf_eq (d : Dev nD) (hlab : LabOK (F := Ideal) (m (labLoc d))) (hlut : ∀ i, IsR (m (lutLoc d) i)) :
    outOf (F := Ideal) m d = Ref.out (F := Ideal) (m (xLoc d)) (m (labLoc d)) (m (lutLoc d)) (m (cqLoc d)) := by
  funext i
  have hi : i = ValueIdx.ix0 := funext fun a => a.elim0
  rw [outOf_apply, hi]
  exact loss_eq (m (xLoc d)) (m (labLoc d)) (m (lutLoc d)) (m (cqLoc d)) hlab hlut

/-- The value claim. -/
theorem algebraic : Cert.algebraic_KernelIdeal_ReferenceIdeal_pre_labels_in_range_lut_finite := fun m g m' g' hpre hargs => by
  have hlab : ∀ d, LabOK (F := Ideal) (m (labLoc d)) := fun d => lab_of_pre' _ _ _ _ (hpre d)
  have hlut : ∀ d i, IsR (m (lutLoc d) i) := fun d i => isR_of_cmp _ (lut_of_pre' _ _ _ _ (hpre d) i)
  refine ⟨fun c => outOf (F := Ideal) m c, ?_, ?_⟩
  · exact (θ_run Cert.KernelIdeal.defs _ _).mono
      (fun _ h c => ⟨(h.1 c).2.2.2.2, (h.1 c).1, (h.1 c).2.1, (h.1 c).2.2.1, (h.1 c).2.2.2.1⟩)
      (run_main (F := Ideal) m g (preOK_of_lab m hlab))
  · refine (θ_run Cert.ReferenceIdeal.defs _ _).mono (fun _ h c => ⟨(h c).1.trans ?_, (h c).2⟩) (Cert.ReferenceIdeal.Value.run m' g')
    obtain ⟨h0, h1, h2, h3⟩ := hargs c
    rw [Ref.res_eq, h0, h1, h2, h3]
    exact (outOf_eq m c (hlab c) (hlut c)).symm

end Cert.Oim

end
-- ==== Proof.lean ====
/-
  The proof of `Cert.Claim`: the frames of the kernel at bits and at the extended reals and of the reference, that the
  idealized program is the kernel's own text, and that the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_labels_in_range
public import proofs.«01_k».proof.Proof.Frames
public import proofs.«01_k».proof.Proof.Gen.Pre_labels_in_range_lut_finite
public import proofs.«01_k».proof.Proof.PreFin
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything claimed: the frames under either precondition, and the value claim. -/
theorem claim : Cert.Claim :=
  ⟨Cert.Kernel.Gen.facts, Cert.KernelIdeal.Gen.facts, Cert.ReferenceIdeal.Gen.facts, Cert.Pre_labels_in_range.Gen.facts,
    Cert.Pre_labels_in_range_lut_finite.Gen.facts,
    Cert.Oim.frame_kernel, Cert.Oim.frame_ideal, Cert.Oim.frame_ideal', Cert.Oim.frame_ref, Cert.Oim.frame_ref', trivial,
    Cert.Oim.algebraic⟩

end Cert.Proof

end
